-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![16384, 256]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![1024, 1]⟩ ⟨2, ![16384, 1]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 256, 512]⟩ ⟨3, ![64, 256, 512]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![16384, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v15) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x256 : Shape := ⟨2, ![1024, 256]⟩
abbrev S256x64 : Shape := ⟨2, ![256, 64]⟩
abbrev S1024x1 : Shape := ⟨2, ![1024, 1]⟩
abbrev S4x256x512 : Shape := ⟨3, ![4, 256, 512]⟩
abbrev S1024x512 : Shape := ⟨2, ![1024, 512]⟩
abbrev S16x4x256x512 : Shape := ⟨4, ![16, 4, 256, 512]⟩
abbrev S16x8x128 : Shape := ⟨3, ![16, 8, 128]⟩
abbrev S15 : Shape := ⟨1, ![15]⟩
abbrev S_ : Shape := ⟨0, ![]⟩
abbrev S1024x128 : Shape := ⟨2, ![1024, 128]⟩
abbrev S1024x64 : Shape := ⟨2, ![1024, 64]⟩
abbrev S128 : Shape := ⟨1, ![128]⟩
abbrev S1x128 : Shape := ⟨2, ![1, 128]⟩
abbrev S8x128 : Shape := ⟨2, ![8, 128]⟩
abbrev S1x4x256x512 : Shape := ⟨4, ![1, 4, 256, 512]⟩
abbrev S1x8x128 : Shape := ⟨3, ![1, 8, 128]⟩
abbrev S1 : Shape := ⟨1, ![1]⟩
abbrev S1024x1024 : Shape := ⟨2, ![1024, 1024]⟩
abbrev S1x64 : Shape := ⟨2, ![1, 64]⟩
abbrev S1024 : Shape := ⟨1, ![1024]⟩
abbrev S1x1x256x512 : Shape := ⟨4, ![1, 1, 256, 512]⟩
abbrev S256x512 : Shape := ⟨2, ![256, 512]⟩

abbrev nBuf : Space → Nat
  | .hbm => 5
  | .vmem => 6
  | .smem => 0
  | _ => 0

abbrev bufTy : (tb : Table) → Fin (tcTables nBuf tb) → BufTy
  | .hbm, ⟨0, _⟩ => ⟨S1024x256, .bf16⟩
  | .hbm, ⟨1, _⟩ => ⟨S256x64, .bf16⟩
  | .hbm, ⟨2, _⟩ => ⟨S1024x1, .i32⟩
  | .hbm, ⟨3, _⟩ => ⟨S4x256x512, .bf16⟩
  | .hbm, ⟨4, _⟩ => ⟨S1024x512, .f32⟩
  | .local _ .vmem, ⟨0, _⟩ => ⟨S1024x256, .bf16⟩
  | .local _ .vmem, ⟨1, _⟩ => ⟨S1024x1, .i32⟩
  | .local _ .vmem, ⟨2, _⟩ => ⟨S4x256x512, .bf16⟩
  | .local _ .vmem, ⟨3, _⟩ => ⟨S1024x512, .f32⟩
  | .local _ .vmem, ⟨4, _⟩ => ⟨S16x4x256x512, .bf16⟩
  | .local _ .vmem, ⟨5, _⟩ => ⟨S16x8x128, .i32⟩
  | _, _ => ⟨S1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  (ofTc nBuf bufTy 1 64 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_5 : BitVec 32 := 1#32
  let v9 : BitVec 32 := Scalar.addi v2 c1_i32_5
  let c16_i32_6 : BitVec 32 := 16#32
  let v10 : BitVec 32 := Scalar.remsi v9 c16_i32_6
  let c1_i32_8 : BitVec 32 := 1#32
  let v11 : BitVec 32 := Scalar.muli v10 c1_i32_8
  let v12 : BitVec 32 := Scalar.addi c0_i32 v11
  v12.toNat
def k0_dev2 (d0 : Dev nD) : Nat :=
  let c0_i32_12 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v13 : BitVec 32 := Scalar.addi v2 c2_i32
  let c16_i32_9 : BitVec 32 := 16#32
  let v14 : BitVec 32 := Scalar.remsi v13 c16_i32_9
  let c1_i32_11 : BitVec 32 := 1#32
  let v15 : BitVec 32 := Scalar.muli v14 c1_i32_11
  let v16 : BitVec 32 := Scalar.addi c0_i32_12 v15
  v16.toNat
def k0_dev3 (d0 : Dev nD) : Nat :=
  let c0_i32_16 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v17 : BitVec 32 := Scalar.addi v2 c3_i32
  let c16_i32_13 : BitVec 32 := 16#32
  let v18 : BitVec 32 := Scalar.remsi v17 c16_i32_13
  let c1_i32_15 : BitVec 32 := 1#32
  let v19 : BitVec 32 := Scalar.muli v18 c1_i32_15
  let v20 : BitVec 32 := Scalar.addi c0_i32_16 v19
  v20.toNat
def k0_dev4 (d0 : Dev nD) : Nat :=
  let c0_i32_20 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v21 : BitVec 32 := Scalar.addi v2 c4_i32
  let c16_i32_17 : BitVec 32 := 16#32
  let v22 : BitVec 32 := Scalar.remsi v21 c16_i32_17
  let c1_i32_19 : BitVec 32 := 1#32
  let v23 : BitVec 32 := Scalar.muli v22 c1_i32_19
  let v24 : BitVec 32 := Scalar.addi c0_i32_20 v23
  v24.toNat
def k0_dev5 (d0 : Dev nD) : Nat :=
  let c0_i32_24 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v25 : BitVec 32 := Scalar.addi v2 c5_i32
  let c16_i32_21 : BitVec 32 := 16#32
  let v26 : BitVec 32 := Scalar.remsi v25 c16_i32_21
  let c1_i32_23 : BitVec 32 := 1#32
  let v27 : BitVec 32 := Scalar.muli v26 c1_i32_23
  let v28 : BitVec 32 := Scalar.addi c0_i32_24 v27
  v28.toNat
def k0_dev6 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v29 : BitVec 32 := Scalar.addi v2 c6_i32
  let c16_i32_25 : BitVec 32 := 16#32
  let v30 : BitVec 32 := Scalar.remsi v29 c16_i32_25
  let c1_i32_27 : BitVec 32 := 1#32
  let v31 : BitVec 32 := Scalar.muli v30 c1_i32_27
  let v32 : BitVec 32 := Scalar.addi c0_i32_28 v31
  v32.toNat
def k0_dev7 (d0 : Dev nD) : Nat :=
  let c0_i32_32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v33 : BitVec 32 := Scalar.addi v2 c7_i32
  let c16_i32_29 : BitVec 32 := 16#32
  let v34 : BitVec 32 := Scalar.remsi v33 c16_i32_29
  let c1_i32_31 : BitVec 32 := 1#32
  let v35 : BitVec 32 := Scalar.muli v34 c1_i32_31
  let v36 : BitVec 32 := Scalar.addi c0_i32_32 v35
  v36.toNat
def k0_dev8 (d0 : Dev nD) : Nat :=
  let c0_i32_36 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v37 : BitVec 32 := Scalar.addi v2 c8_i32
  let c16_i32_33 : BitVec 32 := 16#32
  let v38 : BitVec 32 := Scalar.remsi v37 c16_i32_33
  let c1_i32_35 : BitVec 32 := 1#32
  let v39 : BitVec 32 := Scalar.muli v38 c1_i32_35
  let v40 : BitVec 32 := Scalar.addi c0_i32_36 v39
  v40.toNat
def k0_dev9 (d0 : Dev nD) : Nat :=
  let c0_i32_40 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v41 : BitVec 32 := Scalar.addi v2 c9_i32
  let c16_i32_37 : BitVec 32 := 16#32
  let v42 : BitVec 32 := Scalar.remsi v41 c16_i32_37
  let c1_i32_39 : BitVec 32 := 1#32
  let v43 : BitVec 32 := Scalar.muli v42 c1_i32_39
  let v44 : BitVec 32 := Scalar.addi c0_i32_40 v43
  v44.toNat
def k0_dev10 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v45 : BitVec 32 := Scalar.addi v2 c10_i32
  let c16_i32_41 : BitVec 32 := 16#32
  let v46 : BitVec 32 := Scalar.remsi v45 c16_i32_41
  let c1_i32_43 : BitVec 32 := 1#32
  let v47 : BitVec 32 := Scalar.muli v46 c1_i32_43
  let v48 : BitVec 32 := Scalar.addi c0_i32_44 v47
  v48.toNat
def k0_dev11 (d0 : Dev nD) : Nat :=
  let c0_i32_48 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v49 : BitVec 32 := Scalar.addi v2 c11_i32
  let c16_i32_45 : BitVec 32 := 16#32
  let v50 : BitVec 32 := Scalar.remsi v49 c16_i32_45
  let c1_i32_47 : BitVec 32 := 1#32
  let v51 : BitVec 32 := Scalar.muli v50 c1_i32_47
  let v52 : BitVec 32 := Scalar.addi c0_i32_48 v51
  v52.toNat
def k0_dev12 (d0 : Dev nD) : Nat :=
  let c0_i32_52 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v53 : BitVec 32 := Scalar.addi v2 c12_i32
  let c16_i32_49 : BitVec 32 := 16#32
  let v54 : BitVec 32 := Scalar.remsi v53 c16_i32_49
  let c1_i32_51 : BitVec 32 := 1#32
  let v55 : BitVec 32 := Scalar.muli v54 c1_i32_51
  let v56 : BitVec 32 := Scalar.addi c0_i32_52 v55
  v56.toNat
def k0_dev13 (d0 : Dev nD) : Nat :=
  let c0_i32_56 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v57 : BitVec 32 := Scalar.addi v2 c13_i32
  let c16_i32_53 : BitVec 32 := 16#32
  let v58 : BitVec 32 := Scalar.remsi v57 c16_i32_53
  let c1_i32_55 : BitVec 32 := 1#32
  let v59 : BitVec 32 := Scalar.muli v58 c1_i32_55
  let v60 : BitVec 32 := Scalar.addi c0_i32_56 v59
  v60.toNat
def k0_dev14 (d0 : Dev nD) : Nat :=
  let c0_i32_60 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v61 : BitVec 32 := Scalar.addi v2 c14_i32
  let c16_i32_57 : BitVec 32 := 16#32
  let v62 : BitVec 32 := Scalar.remsi v61 c16_i32_57
  let c1_i32_59 : BitVec 32 := 1#32
  let v63 : BitVec 32 := Scalar.muli v62 c1_i32_59
  let v64 : BitVec 32 := Scalar.addi c0_i32_60 v63
  v64.toNat
def k0_dev15 (d0 : Dev nD) : Nat :=
  let c0_i32_64 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v65 : BitVec 32 := Scalar.addi v2 c15_i32
  let c16_i32_61 : BitVec 32 := 16#32
  let v66 : BitVec 32 := Scalar.remsi v65 c16_i32_61
  let c1_i32_63 : BitVec 32 := 1#32
  let v67 : BitVec 32 := Scalar.muli v66 c1_i32_63
  let v68 : BitVec 32 := Scalar.addi c0_i32_64 v67
  v68.toNat
def k0_off1 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v92 : Index := Scalar.indexCast v2
  let c0_72 : Index := 0#32
  let c0_73 : Index := 0#32
  let c0_74 : Index := 0#32
  ![v92.toNat, 0, 0, 0]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v96 : Index := Scalar.indexCast v2
  let c0_75 : Index := 0#32
  let c0_76 : Index := 0#32
  ![v96.toNat, 0, 0]
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_84 : BitVec 32 := 0#32
  let c0_i32_85 : BitVec 32 := 0#32
  ![v2.toNat, 0, 0]
def k0_dev16 (d0 : Dev nD) : Nat :=
  let c0_i32_83 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_77 : BitVec 32 := 1#32
  let v100 : BitVec 32 := Scalar.addi v2 c1_i32_77
  let c0_i32_78 : BitVec 32 := 0#32
  let v101 : BitVec 32 := Scalar.addi v100 c0_i32_78
  let c16_i32_79 : BitVec 32 := 16#32
  let v102 : BitVec 32 := Scalar.remsi v101 c16_i32_79
  let c1_i32_82 : BitVec 32 := 1#32
  let v103 : BitVec 32 := Scalar.muli v102 c1_i32_82
  let v104 : BitVec 32 := Scalar.addi c0_i32_83 v103
  v104.toNat
def k0_dev17 (d0 : Dev nD) : Nat :=
  let c0_i32_94 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_88 : BitVec 32 := 1#32
  let v113 : BitVec 32 := Scalar.addi v2 c1_i32_88
  let c1_i32_89 : BitVec 32 := 1#32
  let v114 : BitVec 32 := Scalar.addi v113 c1_i32_89
  let c16_i32_90 : BitVec 32 := 16#32
  let v115 : BitVec 32 := Scalar.remsi v114 c16_i32_90
  let c1_i32_93 : BitVec 32 := 1#32
  let v116 : BitVec 32 := Scalar.muli v115 c1_i32_93
  let v117 : BitVec 32 := Scalar.addi c0_i32_94 v116
  v117.toNat
def k0_dev18 (d0 : Dev nD) : Nat :=
  let c0_i32_105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_99 : BitVec 32 := 1#32
  let v126 : BitVec 32 := Scalar.addi v2 c1_i32_99
  let c2_i32_100 : BitVec 32 := 2#32
  let v127 : BitVec 32 := Scalar.addi v126 c2_i32_100
  let c16_i32_101 : BitVec 32 := 16#32
  let v128 : BitVec 32 := Scalar.remsi v127 c16_i32_101
  let c1_i32_104 : BitVec 32 := 1#32
  let v129 : BitVec 32 := Scalar.muli v128 c1_i32_104
  let v130 : BitVec 32 := Scalar.addi c0_i32_105 v129
  v130.toNat
def k0_dev19 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_110 : BitVec 32 := 1#32
  let v139 : BitVec 32 := Scalar.addi v2 c1_i32_110
  let c3_i32_111 : BitVec 32 := 3#32
  let v140 : BitVec 32 := Scalar.addi v139 c3_i32_111
  let c16_i32_112 : BitVec 32 := 16#32
  let v141 : BitVec 32 := Scalar.remsi v140 c16_i32_112
  let c1_i32_115 : BitVec 32 := 1#32
  let v142 : BitVec 32 := Scalar.muli v141 c1_i32_115
  let v143 : BitVec 32 := Scalar.addi c0_i32_116 v142
  v143.toNat
def k0_dev20 (d0 : Dev nD) : Nat :=
  let c0_i32_127 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_121 : BitVec 32 := 1#32
  let v152 : BitVec 32 := Scalar.addi v2 c1_i32_121
  let c4_i32_122 : BitVec 32 := 4#32
  let v153 : BitVec 32 := Scalar.addi v152 c4_i32_122
  let c16_i32_123 : BitVec 32 := 16#32
  let v154 : BitVec 32 := Scalar.remsi v153 c16_i32_123
  let c1_i32_126 : BitVec 32 := 1#32
  let v155 : BitVec 32 := Scalar.muli v154 c1_i32_126
  let v156 : BitVec 32 := Scalar.addi c0_i32_127 v155
  v156.toNat
def k0_dev21 (d0 : Dev nD) : Nat :=
  let c0_i32_138 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_132 : BitVec 32 := 1#32
  let v165 : BitVec 32 := Scalar.addi v2 c1_i32_132
  let c5_i32_133 : BitVec 32 := 5#32
  let v166 : BitVec 32 := Scalar.addi v165 c5_i32_133
  let c16_i32_134 : BitVec 32 := 16#32
  let v167 : BitVec 32 := Scalar.remsi v166 c16_i32_134
  let c1_i32_137 : BitVec 32 := 1#32
  let v168 : BitVec 32 := Scalar.muli v167 c1_i32_137
  let v169 : BitVec 32 := Scalar.addi c0_i32_138 v168
  v169.toNat
def k0_dev22 (d0 : Dev nD) : Nat :=
  let c0_i32_149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_143 : BitVec 32 := 1#32
  let v178 : BitVec 32 := Scalar.addi v2 c1_i32_143
  let c6_i32_144 : BitVec 32 := 6#32
  let v179 : BitVec 32 := Scalar.addi v178 c6_i32_144
  let c16_i32_145 : BitVec 32 := 16#32
  let v180 : BitVec 32 := Scalar.remsi v179 c16_i32_145
  let c1_i32_148 : BitVec 32 := 1#32
  let v181 : BitVec 32 := Scalar.muli v180 c1_i32_148
  let v182 : BitVec 32 := Scalar.addi c0_i32_149 v181
  v182.toNat
def k0_dev23 (d0 : Dev nD) : Nat :=
  let c0_i32_160 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_154 : BitVec 32 := 1#32
  let v191 : BitVec 32 := Scalar.addi v2 c1_i32_154
  let c7_i32_155 : BitVec 32 := 7#32
  let v192 : BitVec 32 := Scalar.addi v191 c7_i32_155
  let c16_i32_156 : BitVec 32 := 16#32
  let v193 : BitVec 32 := Scalar.remsi v192 c16_i32_156
  let c1_i32_159 : BitVec 32 := 1#32
  let v194 : BitVec 32 := Scalar.muli v193 c1_i32_159
  let v195 : BitVec 32 := Scalar.addi c0_i32_160 v194
  v195.toNat
def k0_dev24 (d0 : Dev nD) : Nat :=
  let c0_i32_171 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_165 : BitVec 32 := 1#32
  let v204 : BitVec 32 := Scalar.addi v2 c1_i32_165
  let c8_i32_166 : BitVec 32 := 8#32
  let v205 : BitVec 32 := Scalar.addi v204 c8_i32_166
  let c16_i32_167 : BitVec 32 := 16#32
  let v206 : BitVec 32 := Scalar.remsi v205 c16_i32_167
  let c1_i32_170 : BitVec 32 := 1#32
  let v207 : BitVec 32 := Scalar.muli v206 c1_i32_170
  let v208 : BitVec 32 := Scalar.addi c0_i32_171 v207
  v208.toNat
def k0_dev25 (d0 : Dev nD) : Nat :=
  let c0_i32_182 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_176 : BitVec 32 := 1#32
  let v217 : BitVec 32 := Scalar.addi v2 c1_i32_176
  let c9_i32_177 : BitVec 32 := 9#32
  let v218 : BitVec 32 := Scalar.addi v217 c9_i32_177
  let c16_i32_178 : BitVec 32 := 16#32
  let v219 : BitVec 32 := Scalar.remsi v218 c16_i32_178
  let c1_i32_181 : BitVec 32 := 1#32
  let v220 : BitVec 32 := Scalar.muli v219 c1_i32_181
  let v221 : BitVec 32 := Scalar.addi c0_i32_182 v220
  v221.toNat
def k0_dev26 (d0 : Dev nD) : Nat :=
  let c0_i32_193 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_187 : BitVec 32 := 1#32
  let v230 : BitVec 32 := Scalar.addi v2 c1_i32_187
  let c10_i32_188 : BitVec 32 := 10#32
  let v231 : BitVec 32 := Scalar.addi v230 c10_i32_188
  let c16_i32_189 : BitVec 32 := 16#32
  let v232 : BitVec 32 := Scalar.remsi v231 c16_i32_189
  let c1_i32_192 : BitVec 32 := 1#32
  let v233 : BitVec 32 := Scalar.muli v232 c1_i32_192
  let v234 : BitVec 32 := Scalar.addi c0_i32_193 v233
  v234.toNat
def k0_dev27 (d0 : Dev nD) : Nat :=
  let c0_i32_204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_198 : BitVec 32 := 1#32
  let v243 : BitVec 32 := Scalar.addi v2 c1_i32_198
  let c11_i32_199 : BitVec 32 := 11#32
  let v244 : BitVec 32 := Scalar.addi v243 c11_i32_199
  let c16_i32_200 : BitVec 32 := 16#32
  let v245 : BitVec 32 := Scalar.remsi v244 c16_i32_200
  let c1_i32_203 : BitVec 32 := 1#32
  let v246 : BitVec 32 := Scalar.muli v245 c1_i32_203
  let v247 : BitVec 32 := Scalar.addi c0_i32_204 v246
  v247.toNat
def k0_dev28 (d0 : Dev nD) : Nat :=
  let c0_i32_215 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_209 : BitVec 32 := 1#32
  let v256 : BitVec 32 := Scalar.addi v2 c1_i32_209
  let c12_i32_210 : BitVec 32 := 12#32
  let v257 : BitVec 32 := Scalar.addi v256 c12_i32_210
  let c16_i32_211 : BitVec 32 := 16#32
  let v258 : BitVec 32 := Scalar.remsi v257 c16_i32_211
  let c1_i32_214 : BitVec 32 := 1#32
  let v259 : BitVec 32 := Scalar.muli v258 c1_i32_214
  let v260 : BitVec 32 := Scalar.addi c0_i32_215 v259
  v260.toNat
def k0_dev29 (d0 : Dev nD) : Nat :=
  let c0_i32_226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_220 : BitVec 32 := 1#32
  let v269 : BitVec 32 := Scalar.addi v2 c1_i32_220
  let c13_i32_221 : BitVec 32 := 13#32
  let v270 : BitVec 32 := Scalar.addi v269 c13_i32_221
  let c16_i32_222 : BitVec 32 := 16#32
  let v271 : BitVec 32 := Scalar.remsi v270 c16_i32_222
  let c1_i32_225 : BitVec 32 := 1#32
  let v272 : BitVec 32 := Scalar.muli v271 c1_i32_225
  let v273 : BitVec 32 := Scalar.addi c0_i32_226 v272
  v273.toNat
def k0_dev30 (d0 : Dev nD) : Nat :=
  let c0_i32_237 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_231 : BitVec 32 := 1#32
  let v282 : BitVec 32 := Scalar.addi v2 c1_i32_231
  let c14_i32_232 : BitVec 32 := 14#32
  let v283 : BitVec 32 := Scalar.addi v282 c14_i32_232
  let c16_i32_233 : BitVec 32 := 16#32
  let v284 : BitVec 32 := Scalar.remsi v283 c16_i32_233
  let c1_i32_236 : BitVec 32 := 1#32
  let v285 : BitVec 32 := Scalar.muli v284 c1_i32_236
  let v286 : BitVec 32 := Scalar.addi c0_i32_237 v285
  v286.toNat
def k0_off4 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_246 : BitVec 32 := 0#32
  let c0_i32_247 : BitVec 32 := 0#32
  let c0_i32_248 : BitVec 32 := 0#32
  ![v2.toNat, 0, 0, 0]
def k0_dev31 (d0 : Dev nD) : Nat :=
  let c0_i32_245 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_244 : BitVec 32 := 1#32
  let v295 : BitVec 32 := Scalar.muli v7 c1_i32_244
  let v296 : BitVec 32 := Scalar.addi c0_i32_245 v295
  v296.toNat
def k0_dev32 (d0 : Dev nD) : Nat :=
  let c0_i32_255 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_254 : BitVec 32 := 1#32
  let v305 : BitVec 32 := Scalar.muli v5 c1_i32_254
  let v306 : BitVec 32 := Scalar.addi c0_i32_255 v305
  v306.toNat
@[reducible] def k0_t1_loop : Scf.Loop 32 :=
  let c0_i32_560 : BitVec 32 := 0#32
  let c4_i32_561 : BitVec 32 := 4#32
  let v647 : BitVec 32 := Scalar.addi c0_i32_560 c4_i32_561
  let c1_i32_562 : BitVec 32 := 1#32
  ⟨c0_i32_560, v647, c1_i32_562⟩
def k0_off5 (d0 : Dev nD) (k0_t1 : Fin k0_t1_loop.trips) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1056 : Index := Scalar.indexCast v2
  let c0_i32_560 : BitVec 32 := 0#32
  let c1_i32_562 : BitVec 32 := 1#32
  let arg10 : BitVec 32 := Scf.iv c0_i32_560 c1_i32_562 k0_t1
  let v1057 : Index := Scalar.indexCast arg10
  let c0_1091 : Index := 0#32
  let c0_1092 : Index := 0#32
  ![v1056.toNat, v1057.toNat, 0, 0]
def k0_off6 (d0 : Dev nD) (c0_i32_584 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v664 : BitVec 32 := Scalar.subi v2 c0_i32_584
  let c1_i32_585 : BitVec 32 := 1#32
  let v665 : BitVec 32 := Scalar.subi v664 c1_i32_585
  let c32_i32 : BitVec 32 := 32#32
  let v666 : BitVec 32 := Scalar.addi v665 c32_i32
  let c16_i32_586 : BitVec 32 := 16#32
  let v667 : BitVec 32 := Scalar.remsi v666 c16_i32_586
  let c0_i32_594 : BitVec 32 := 0#32
  let c0_i32_595 : BitVec 32 := 0#32
  let c0_i32_596 : BitVec 32 := 0#32
  ![v667.toNat, 0, 0, 0]
def k0_dev33 (d0 : Dev nD) : Nat :=
  let c0_i32_593 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_592 : BitVec 32 := 1#32
  let v671 : BitVec 32 := Scalar.muli v7 c1_i32_592
  let v672 : BitVec 32 := Scalar.addi c0_i32_593 v671
  v672.toNat
def k0_off7 (d0 : Dev nD) (c0_i32_587 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v668 : BitVec 32 := Scalar.addi v2 c0_i32_587
  let c1_i32_588 : BitVec 32 := 1#32
  let v669 : BitVec 32 := Scalar.addi v668 c1_i32_588
  let c16_i32_589 : BitVec 32 := 16#32
  let v670 : BitVec 32 := Scalar.remsi v669 c16_i32_589
  let c0_i32_604 : BitVec 32 := 0#32
  let c0_i32_605 : BitVec 32 := 0#32
  let c0_i32_606 : BitVec 32 := 0#32
  ![v670.toNat, 0, 0, 0]
def k0_dev34 (d0 : Dev nD) : Nat :=
  let c0_i32_603 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_602 : BitVec 32 := 1#32
  let v681 : BitVec 32 := Scalar.muli v5 c1_i32_602
  let v682 : BitVec 32 := Scalar.addi c0_i32_603 v681
  v682.toNat
@[reducible] def k0_t2_loop : Scf.Loop 32 :=
  let c0_i32_628 : BitVec 32 := 0#32
  let c4_i32_629 : BitVec 32 := 4#32
  let v703 : BitVec 32 := Scalar.addi c0_i32_628 c4_i32_629
  let c1_i32_630 : BitVec 32 := 1#32
  ⟨c0_i32_628, v703, c1_i32_630⟩
def k0_off8 (d0 : Dev nD) (k0_t2 : Fin k0_t2_loop.trips) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_584 : BitVec 32 := 0#32
  let v664 : BitVec 32 := Scalar.subi v2 c0_i32_584
  let c1_i32_585 : BitVec 32 := 1#32
  let v665 : BitVec 32 := Scalar.subi v664 c1_i32_585
  let c32_i32 : BitVec 32 := 32#32
  let v666 : BitVec 32 := Scalar.addi v665 c32_i32
  let c16_i32_586 : BitVec 32 := 16#32
  let v667 : BitVec 32 := Scalar.remsi v666 c16_i32_586
  let v1056 : Index := Scalar.indexCast v667
  let c0_i32_628 : BitVec 32 := 0#32
  let c1_i32_630 : BitVec 32 := 1#32
  let arg10 : BitVec 32 := Scf.iv c0_i32_628 c1_i32_630 k0_t2
  let v1057 : Index := Scalar.indexCast arg10
  let c0_1091 : Index := 0#32
  let c0_1092 : Index := 0#32
  ![v1056.toNat, v1057.toNat, 0, 0]
@[reducible] def k0_t3_loop : Scf.Loop 32 :=
  let c0_i32_632 : BitVec 32 := 0#32
  let c4_i32_633 : BitVec 32 := 4#32
  let v704 : BitVec 32 := Scalar.addi c0_i32_632 c4_i32_633
  let c1_i32_634 : BitVec 32 := 1#32
  ⟨c0_i32_632, v704, c1_i32_634⟩
def k0_off9 (d0 : Dev nD) (k0_t3 : Fin k0_t3_loop.trips) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_587 : BitVec 32 := 0#32
  let v668 : BitVec 32 := Scalar.addi v2 c0_i32_587
  let c1_i32_588 : BitVec 32 := 1#32
  let v669 : BitVec 32 := Scalar.addi v668 c1_i32_588
  let c16_i32_589 : BitVec 32 := 16#32
  let v670 : BitVec 32 := Scalar.remsi v669 c16_i32_589
  let v1056 : Index := Scalar.indexCast v670
  let c0_i32_632 : BitVec 32 := 0#32
  let c1_i32_634 : BitVec 32 := 1#32
  let arg10 : BitVec 32 := Scf.iv c0_i32_632 c1_i32_634 k0_t3
  let v1057 : Index := Scalar.indexCast arg10
  let c0_1091 : Index := 0#32
  let c0_1092 : Index := 0#32
  ![v1056.toNat, v1057.toNat, 0, 0]
def k0_dev35 (d0 : Dev nD) : Nat :=
  let c0_i32_666 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_665 : BitVec 32 := 1#32
  let v728 : BitVec 32 := Scalar.muli v7 c1_i32_665
  let v729 : BitVec 32 := Scalar.addi c0_i32_666 v728
  v729.toNat
def k0_dev36 (d0 : Dev nD) : Nat :=
  let c0_i32_676 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_675 : BitVec 32 := 1#32
  let v738 : BitVec 32 := Scalar.muli v5 c1_i32_675
  let v739 : BitVec 32 := Scalar.addi c0_i32_676 v738
  v739.toNat
@[reducible] def k0_t4_loop : Scf.Loop 32 :=
  let c0_i32_701 : BitVec 32 := 0#32
  let c4_i32_702 : BitVec 32 := 4#32
  let v760 : BitVec 32 := Scalar.addi c0_i32_701 c4_i32_702
  let c1_i32_703 : BitVec 32 := 1#32
  ⟨c0_i32_701, v760, c1_i32_703⟩
def k0_off10 (d0 : Dev nD) (k0_t4 : Fin k0_t4_loop.trips) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_656 : BitVec 32 := 1#32
  let v721 : BitVec 32 := Scalar.subi v2 c1_i32_656
  let c1_i32_657 : BitVec 32 := 1#32
  let v722 : BitVec 32 := Scalar.subi v721 c1_i32_657
  let c32_i32_658 : BitVec 32 := 32#32
  let v723 : BitVec 32 := Scalar.addi v722 c32_i32_658
  let c16_i32_659 : BitVec 32 := 16#32
  let v724 : BitVec 32 := Scalar.remsi v723 c16_i32_659
  let v1056 : Index := Scalar.indexCast v724
  let c0_i32_701 : BitVec 32 := 0#32
  let c1_i32_703 : BitVec 32 := 1#32
  let arg10 : BitVec 32 := Scf.iv c0_i32_701 c1_i32_703 k0_t4
  let v1057 : Index := Scalar.indexCast arg10
  let c0_1091 : Index := 0#32
  let c0_1092 : Index := 0#32
  ![v1056.toNat, v1057.toNat, 0, 0]
@[reducible] def k0_t5_loop : Scf.Loop 32 :=
  let c0_i32_705 : BitVec 32 := 0#32
  let c4_i32_706 : BitVec 32 := 4#32
  let v761 : BitVec 32 := Scalar.addi c0_i32_705 c4_i32_706
  let c1_i32_707 : BitVec 32 := 1#32
  ⟨c0_i32_705, v761, c1_i32_707⟩
def k0_off11 (d0 : Dev nD) (k0_t5 : Fin k0_t5_loop.trips) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_660 : BitVec 32 := 1#32
  let v725 : BitVec 32 := Scalar.addi v2 c1_i32_660
  let c1_i32_661 : BitVec 32 := 1#32
  let v726 : BitVec 32 := Scalar.addi v725 c1_i32_661
  let c16_i32_662 : BitVec 32 := 16#32
  let v727 : BitVec 32 := Scalar.remsi v726 c16_i32_662
  let v1056 : Index := Scalar.indexCast v727
  let c0_i32_705 : BitVec 32 := 0#32
  let c1_i32_707 : BitVec 32 := 1#32
  let arg10 : BitVec 32 := Scf.iv c0_i32_705 c1_i32_707 k0_t5
  let v1057 : Index := Scalar.indexCast arg10
  let c0_1091 : Index := 0#32
  let c0_1092 : Index := 0#32
  ![v1056.toNat, v1057.toNat, 0, 0]
def k0_dev37 (d0 : Dev nD) : Nat :=
  let c0_i32_739 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_738 : BitVec 32 := 1#32
  let v785 : BitVec 32 := Scalar.muli v7 c1_i32_738
  let v786 : BitVec 32 := Scalar.addi c0_i32_739 v785
  v786.toNat
def k0_dev38 (d0 : Dev nD) : Nat :=
  let c0_i32_749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_748 : BitVec 32 := 1#32
  let v795 : BitVec 32 := Scalar.muli v5 c1_i32_748
  let v796 : BitVec 32 := Scalar.addi c0_i32_749 v795
  v796.toNat
@[reducible] def k0_t6_loop : Scf.Loop 32 :=
  let c0_i32_774 : BitVec 32 := 0#32
  let c4_i32_775 : BitVec 32 := 4#32
  let v817 : BitVec 32 := Scalar.addi c0_i32_774 c4_i32_775
  let c1_i32_776 : BitVec 32 := 1#32
  ⟨c0_i32_774, v817, c1_i32_776⟩
def k0_off12 (d0 : Dev nD) (k0_t6 : Fin k0_t6_loop.trips) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_729 : BitVec 32 := 2#32
  let v778 : BitVec 32 := Scalar.subi v2 c2_i32_729
  let c1_i32_730 : BitVec 32 := 1#32
  let v779 : BitVec 32 := Scalar.subi v778 c1_i32_730
  let c32_i32_731 : BitVec 32 := 32#32
  let v780 : BitVec 32 := Scalar.addi v779 c32_i32_731
  let c16_i32_732 : BitVec 32 := 16#32
  let v781 : BitVec 32 := Scalar.remsi v780 c16_i32_732
  let v1056 : Index := Scalar.indexCast v781
  let c0_i32_774 : BitVec 32 := 0#32
  let c1_i32_776 : BitVec 32 := 1#32
  let arg10 : BitVec 32 := Scf.iv c0_i32_774 c1_i32_776 k0_t6
  let v1057 : Index := Scalar.indexCast arg10
  let c0_1091 : Index := 0#32
  let c0_1092 : Index := 0#32
  ![v1056.toNat, v1057.toNat, 0, 0]
@[reducible] def k0_t7_loop : Scf.Loop 32 :=
  let c0_i32_778 : BitVec 32 := 0#32
  let c4_i32_779 : BitVec 32 := 4#32
  let v818 : BitVec 32 := Scalar.addi c0_i32_778 c4_i32_779
  let c1_i32_780 : BitVec 32 := 1#32
  ⟨c0_i32_778, v818, c1_i32_780⟩
def k0_off13 (d0 : Dev nD) (k0_t7 : Fin k0_t7_loop.trips) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_733 : BitVec 32 := 2#32
  let v782 : BitVec 32 := Scalar.addi v2 c2_i32_733
  let c1_i32_734 : BitVec 32 := 1#32
  let v783 : BitVec 32 := Scalar.addi v782 c1_i32_734
  let c16_i32_735 : BitVec 32 := 16#32
  let v784 : BitVec 32 := Scalar.remsi v783 c16_i32_735
  let v1056 : Index := Scalar.indexCast v784
  let c0_i32_778 : BitVec 32 := 0#32
  let c1_i32_780 : BitVec 32 := 1#32
  let arg10 : BitVec 32 := Scf.iv c0_i32_778 c1_i32_780 k0_t7
  let v1057 : Index := Scalar.indexCast arg10
  let c0_1091 : Index := 0#32
  let c0_1092 : Index := 0#32
  ![v1056.toNat, v1057.toNat, 0, 0]
def k0_dev39 (d0 : Dev nD) : Nat :=
  let c0_i32_812 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_811 : BitVec 32 := 1#32
  let v842 : BitVec 32 := Scalar.muli v7 c1_i32_811
  let v843 : BitVec 32 := Scalar.addi c0_i32_812 v842
  v843.toNat
def k0_dev40 (d0 : Dev nD) : Nat :=
  let c0_i32_822 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_821 : BitVec 32 := 1#32
  let v852 : BitVec 32 := Scalar.muli v5 c1_i32_821
  let v853 : BitVec 32 := Scalar.addi c0_i32_822 v852
  v853.toNat
@[reducible] def k0_t8_loop : Scf.Loop 32 :=
  let c0_i32_847 : BitVec 32 := 0#32
  let c4_i32_848 : BitVec 32 := 4#32
  let v874 : BitVec 32 := Scalar.addi c0_i32_847 c4_i32_848
  let c1_i32_849 : BitVec 32 := 1#32
  ⟨c0_i32_847, v874, c1_i32_849⟩
def k0_off14 (d0 : Dev nD) (k0_t8 : Fin k0_t8_loop.trips) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_802 : BitVec 32 := 3#32
  let v835 : BitVec 32 := Scalar.subi v2 c3_i32_802
  let c1_i32_803 : BitVec 32 := 1#32
  let v836 : BitVec 32 := Scalar.subi v835 c1_i32_803
  let c32_i32_804 : BitVec 32 := 32#32
  let v837 : BitVec 32 := Scalar.addi v836 c32_i32_804
  let c16_i32_805 : BitVec 32 := 16#32
  let v838 : BitVec 32 := Scalar.remsi v837 c16_i32_805
  let v1056 : Index := Scalar.indexCast v838
  let c0_i32_847 : BitVec 32 := 0#32
  let c1_i32_849 : BitVec 32 := 1#32
  let arg10 : BitVec 32 := Scf.iv c0_i32_847 c1_i32_849 k0_t8
  let v1057 : Index := Scalar.indexCast arg10
  let c0_1091 : Index := 0#32
  let c0_1092 : Index := 0#32
  ![v1056.toNat, v1057.toNat, 0, 0]
@[reducible] def k0_t9_loop : Scf.Loop 32 :=
  let c0_i32_851 : BitVec 32 := 0#32
  let c4_i32_852 : BitVec 32 := 4#32
  let v875 : BitVec 32 := Scalar.addi c0_i32_851 c4_i32_852
  let c1_i32_853 : BitVec 32 := 1#32
  ⟨c0_i32_851, v875, c1_i32_853⟩
def k0_off15 (d0 : Dev nD) (k0_t9 : Fin k0_t9_loop.trips) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_806 : BitVec 32 := 3#32
  let v839 : BitVec 32 := Scalar.addi v2 c3_i32_806
  let c1_i32_807 : BitVec 32 := 1#32
  let v840 : BitVec 32 := Scalar.addi v839 c1_i32_807
  let c16_i32_808 : BitVec 32 := 16#32
  let v841 : BitVec 32 := Scalar.remsi v840 c16_i32_808
  let v1056 : Index := Scalar.indexCast v841
  let c0_i32_851 : BitVec 32 := 0#32
  let c1_i32_853 : BitVec 32 := 1#32
  let arg10 : BitVec 32 := Scf.iv c0_i32_851 c1_i32_853 k0_t9
  let v1057 : Index := Scalar.indexCast arg10
  let c0_1091 : Index := 0#32
  let c0_1092 : Index := 0#32
  ![v1056.toNat, v1057.toNat, 0, 0]
def k0_dev41 (d0 : Dev nD) : Nat :=
  let c0_i32_885 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_884 : BitVec 32 := 1#32
  let v899 : BitVec 32 := Scalar.muli v7 c1_i32_884
  let v900 : BitVec 32 := Scalar.addi c0_i32_885 v899
  v900.toNat
def k0_dev42 (d0 : Dev nD) : Nat :=
  let c0_i32_895 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_894 : BitVec 32 := 1#32
  let v909 : BitVec 32 := Scalar.muli v5 c1_i32_894
  let v910 : BitVec 32 := Scalar.addi c0_i32_895 v909
  v910.toNat
@[reducible] def k0_t10_loop : Scf.Loop 32 :=
  let c0_i32_920 : BitVec 32 := 0#32
  let c4_i32_921 : BitVec 32 := 4#32
  let v931 : BitVec 32 := Scalar.addi c0_i32_920 c4_i32_921
  let c1_i32_922 : BitVec 32 := 1#32
  ⟨c0_i32_920, v931, c1_i32_922⟩
def k0_off16 (d0 : Dev nD) (k0_t10 : Fin k0_t10_loop.trips) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_875 : BitVec 32 := 4#32
  let v892 : BitVec 32 := Scalar.subi v2 c4_i32_875
  let c1_i32_876 : BitVec 32 := 1#32
  let v893 : BitVec 32 := Scalar.subi v892 c1_i32_876
  let c32_i32_877 : BitVec 32 := 32#32
  let v894 : BitVec 32 := Scalar.addi v893 c32_i32_877
  let c16_i32_878 : BitVec 32 := 16#32
  let v895 : BitVec 32 := Scalar.remsi v894 c16_i32_878
  let v1056 : Index := Scalar.indexCast v895
  let c0_i32_920 : BitVec 32 := 0#32
  let c1_i32_922 : BitVec 32 := 1#32
  let arg10 : BitVec 32 := Scf.iv c0_i32_920 c1_i32_922 k0_t10
  let v1057 : Index := Scalar.indexCast arg10
  let c0_1091 : Index := 0#32
  let c0_1092 : Index := 0#32
  ![v1056.toNat, v1057.toNat, 0, 0]
@[reducible] def k0_t11_loop : Scf.Loop 32 :=
  let c0_i32_924 : BitVec 32 := 0#32
  let c4_i32_925 : BitVec 32 := 4#32
  let v932 : BitVec 32 := Scalar.addi c0_i32_924 c4_i32_925
  let c1_i32_926 : BitVec 32 := 1#32
  ⟨c0_i32_924, v932, c1_i32_926⟩
def k0_off17 (d0 : Dev nD) (k0_t11 : Fin k0_t11_loop.trips) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_879 : BitVec 32 := 4#32
  let v896 : BitVec 32 := Scalar.addi v2 c4_i32_879
  let c1_i32_880 : BitVec 32 := 1#32
  let v897 : BitVec 32 := Scalar.addi v896 c1_i32_880
  let c16_i32_881 : BitVec 32 := 16#32
  let v898 : BitVec 32 := Scalar.remsi v897 c16_i32_881
  let v1056 : Index := Scalar.indexCast v898
  let c0_i32_924 : BitVec 32 := 0#32
  let c1_i32_926 : BitVec 32 := 1#32
  let arg10 : BitVec 32 := Scf.iv c0_i32_924 c1_i32_926 k0_t11
  let v1057 : Index := Scalar.indexCast arg10
  let c0_1091 : Index := 0#32
  let c0_1092 : Index := 0#32
  ![v1056.toNat, v1057.toNat, 0, 0]
def k0_dev43 (d0 : Dev nD) : Nat :=
  let c0_i32_958 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_957 : BitVec 32 := 1#32
  let v956 : BitVec 32 := Scalar.muli v7 c1_i32_957
  let v957 : BitVec 32 := Scalar.addi c0_i32_958 v956
  v957.toNat
def k0_dev44 (d0 : Dev nD) : Nat :=
  let c0_i32_968 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_967 : BitVec 32 := 1#32
  let v966 : BitVec 32 := Scalar.muli v5 c1_i32_967
  let v967 : BitVec 32 := Scalar.addi c0_i32_968 v966
  v967.toNat
@[reducible] def k0_t12_loop : Scf.Loop 32 :=
  let c0_i32_993 : BitVec 32 := 0#32
  let c4_i32_994 : BitVec 32 := 4#32
  let v988 : BitVec 32 := Scalar.addi c0_i32_993 c4_i32_994
  let c1_i32_995 : BitVec 32 := 1#32
  ⟨c0_i32_993, v988, c1_i32_995⟩
def k0_off18 (d0 : Dev nD) (k0_t12 : Fin k0_t12_loop.trips) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_948 : BitVec 32 := 5#32
  let v949 : BitVec 32 := Scalar.subi v2 c5_i32_948
  let c1_i32_949 : BitVec 32 := 1#32
  let v950 : BitVec 32 := Scalar.subi v949 c1_i32_949
  let c32_i32_950 : BitVec 32 := 32#32
  let v951 : BitVec 32 := Scalar.addi v950 c32_i32_950
  let c16_i32_951 : BitVec 32 := 16#32
  let v952 : BitVec 32 := Scalar.remsi v951 c16_i32_951
  let v1056 : Index := Scalar.indexCast v952
  let c0_i32_993 : BitVec 32 := 0#32
  let c1_i32_995 : BitVec 32 := 1#32
  let arg10 : BitVec 32 := Scf.iv c0_i32_993 c1_i32_995 k0_t12
  let v1057 : Index := Scalar.indexCast arg10
  let c0_1091 : Index := 0#32
  let c0_1092 : Index := 0#32
  ![v1056.toNat, v1057.toNat, 0, 0]
@[reducible] def k0_t13_loop : Scf.Loop 32 :=
  let c0_i32_997 : BitVec 32 := 0#32
  let c4_i32_998 : BitVec 32 := 4#32
  let v989 : BitVec 32 := Scalar.addi c0_i32_997 c4_i32_998
  let c1_i32_999 : BitVec 32 := 1#32
  ⟨c0_i32_997, v989, c1_i32_999⟩
def k0_off19 (d0 : Dev nD) (k0_t13 : Fin k0_t13_loop.trips) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_952 : BitVec 32 := 5#32
  let v953 : BitVec 32 := Scalar.addi v2 c5_i32_952
  let c1_i32_953 : BitVec 32 := 1#32
  let v954 : BitVec 32 := Scalar.addi v953 c1_i32_953
  let c16_i32_954 : BitVec 32 := 16#32
  let v955 : BitVec 32 := Scalar.remsi v954 c16_i32_954
  let v1056 : Index := Scalar.indexCast v955
  let c0_i32_997 : BitVec 32 := 0#32
  let c1_i32_999 : BitVec 32 := 1#32
  let arg10 : BitVec 32 := Scf.iv c0_i32_997 c1_i32_999 k0_t13
  let v1057 : Index := Scalar.indexCast arg10
  let c0_1091 : Index := 0#32
  let c0_1092 : Index := 0#32
  ![v1056.toNat, v1057.toNat, 0, 0]
def k0_dev45 (d0 : Dev nD) : Nat :=
  let c0_i32_1031 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1030 : BitVec 32 := 1#32
  let v1013 : BitVec 32 := Scalar.muli v7 c1_i32_1030
  let v1014 : BitVec 32 := Scalar.addi c0_i32_1031 v1013
  v1014.toNat
@[reducible] def k0_t14_loop : Scf.Loop 32 :=
  let c0_i32_1056 : BitVec 32 := 0#32
  let c4_i32_1057 : BitVec 32 := 4#32
  let v1035 : BitVec 32 := Scalar.addi c0_i32_1056 c4_i32_1057
  let c1_i32_1058 : BitVec 32 := 1#32
  ⟨c0_i32_1056, v1035, c1_i32_1058⟩
def k0_off20 (d0 : Dev nD) (k0_t14 : Fin k0_t14_loop.trips) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1021 : BitVec 32 := 6#32
  let v1006 : BitVec 32 := Scalar.subi v2 c6_i32_1021
  let c1_i32_1022 : BitVec 32 := 1#32
  let v1007 : BitVec 32 := Scalar.subi v1006 c1_i32_1022
  let c32_i32_1023 : BitVec 32 := 32#32
  let v1008 : BitVec 32 := Scalar.addi v1007 c32_i32_1023
  let c16_i32_1024 : BitVec 32 := 16#32
  let v1009 : BitVec 32 := Scalar.remsi v1008 c16_i32_1024
  let v1056 : Index := Scalar.indexCast v1009
  let c0_i32_1056 : BitVec 32 := 0#32
  let c1_i32_1058 : BitVec 32 := 1#32
  let arg10 : BitVec 32 := Scf.iv c0_i32_1056 c1_i32_1058 k0_t14
  let v1057 : Index := Scalar.indexCast arg10
  let c0_1091 : Index := 0#32
  let c0_1092 : Index := 0#32
  ![v1056.toNat, v1057.toNat, 0, 0]
@[reducible] def k0_t15_loop : Scf.Loop 32 :=
  let c0_i32_1060 : BitVec 32 := 0#32
  let c4_i32_1061 : BitVec 32 := 4#32
  let v1036 : BitVec 32 := Scalar.addi c0_i32_1060 c4_i32_1061
  let c1_i32_1062 : BitVec 32 := 1#32
  ⟨c0_i32_1060, v1036, c1_i32_1062⟩
def k0_off21 (d0 : Dev nD) (k0_t15 : Fin k0_t15_loop.trips) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1025 : BitVec 32 := 6#32
  let v1010 : BitVec 32 := Scalar.addi v2 c6_i32_1025
  let c1_i32_1026 : BitVec 32 := 1#32
  let v1011 : BitVec 32 := Scalar.addi v1010 c1_i32_1026
  let c16_i32_1027 : BitVec 32 := 16#32
  let v1012 : BitVec 32 := Scalar.remsi v1011 c16_i32_1027
  let v1056 : Index := Scalar.indexCast v1012
  let c0_i32_1060 : BitVec 32 := 0#32
  let c1_i32_1062 : BitVec 32 := 1#32
  let arg10 : BitVec 32 := Scf.iv c0_i32_1060 c1_i32_1062 k0_t15
  let v1057 : Index := Scalar.indexCast arg10
  let c0_1091 : Index := 0#32
  let c0_1092 : Index := 0#32
  ![v1056.toNat, v1057.toNat, 0, 0]
@[reducible] def k0_t16_loop : Scf.Loop 32 :=
  let c0_i32_1087 : BitVec 32 := 0#32
  let c4_i32_1088 : BitVec 32 := 4#32
  let v1055 : BitVec 32 := Scalar.addi c0_i32_1087 c4_i32_1088
  let c1_i32_1089 : BitVec 32 := 1#32
  ⟨c0_i32_1087, v1055, c1_i32_1089⟩
def k0_off22 (d0 : Dev nD) (k0_t16 : Fin k0_t16_loop.trips) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1074 : BitVec 32 := 7#32
  let v1045 : BitVec 32 := Scalar.subi v2 c7_i32_1074
  let c1_i32_1075 : BitVec 32 := 1#32
  let v1046 : BitVec 32 := Scalar.subi v1045 c1_i32_1075
  let c32_i32_1076 : BitVec 32 := 32#32
  let v1047 : BitVec 32 := Scalar.addi v1046 c32_i32_1076
  let c16_i32_1077 : BitVec 32 := 16#32
  let v1048 : BitVec 32 := Scalar.remsi v1047 c16_i32_1077
  let v1056 : Index := Scalar.indexCast v1048
  let c0_i32_1087 : BitVec 32 := 0#32
  let c1_i32_1089 : BitVec 32 := 1#32
  let arg10 : BitVec 32 := Scf.iv c0_i32_1087 c1_i32_1089 k0_t16
  let v1057 : Index := Scalar.indexCast arg10
  let c0_1091 : Index := 0#32
  let c0_1092 : Index := 0#32
  ![v1056.toNat, v1057.toNat, 0, 0]
abbrev stage0_0 : Fin 1 → Memref sig .tc .vmem S1024x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S16384x256 : Shape := ⟨2, ![16384, 256]⟩
abbrev S256x64 : Shape := ⟨2, ![256, 64]⟩
abbrev S16384x1 : Shape := ⟨2, ![16384, 1]⟩
abbrev S64x256x512 : Shape := ⟨3, ![64, 256, 512]⟩
abbrev S64 : Shape := ⟨1, ![64]⟩
abbrev S1x64 : Shape := ⟨2, ![1, 64]⟩
abbrev S16384x64 : Shape := ⟨2, ![16384, 64]⟩
abbrev S_ : Shape := ⟨0, ![]⟩
abbrev S16384x64x512 : Shape := ⟨3, ![16384, 64, 512]⟩
abbrev S16384x64x1 : Shape := ⟨3, ![16384, 64, 1]⟩
abbrev S16384x512 : Shape := ⟨2, ![16384, 512]⟩

abbrev nBuf : Space → Nat
  | .hbm => 28
  | .vmem => 0
  | .smem => 0
  | _ => 0

abbrev bufTy : (tb : Table) → Fin (tcTables nBuf tb) → BufTy
  | .hbm, ⟨0, _⟩ => ⟨S16384x256, .bf16⟩
  | .hbm, ⟨1, _⟩ => ⟨S256x64, .bf16⟩
  | .hbm, ⟨2, _⟩ => ⟨S16384x1, .i32⟩
  | .hbm, ⟨3, _⟩ => ⟨S64x256x512, .bf16⟩
  | .hbm, ⟨4, _⟩ => ⟨S64, .i32⟩
  | .hbm, ⟨5, _⟩ => ⟨S1x64, .i32⟩
  | .hbm, ⟨6, _⟩ => ⟨S16384x64, .i32⟩
  | .hbm, ⟨7, _⟩ => ⟨S16384x64, .i32⟩
  | .hbm, ⟨8, _⟩ => ⟨S16384x64, .i1⟩
  | .hbm, ⟨9, _⟩ => ⟨S16384x64, .i32⟩
  | .hbm, ⟨10, _⟩ => ⟨S_, .i32⟩
  | .hbm, ⟨11, _⟩ => ⟨S_, .i32⟩
  | .hbm, ⟨12, _⟩ => ⟨S16384x64, .i32⟩
  | .hbm, ⟨13, _⟩ => ⟨S_, .i32⟩
  | .hbm, ⟨14, _⟩ => ⟨S16384x64, .i32⟩
  | .hbm, ⟨15, _⟩ => ⟨S16384x64, .i1⟩
  | .hbm, ⟨16, _⟩ => ⟨S16384x64, .i1⟩
  | .hbm, ⟨17, _⟩ => ⟨S16384x256, .f32⟩
  | .hbm, ⟨18, _⟩ => ⟨S64x256x512, .f32⟩
  | .hbm, ⟨19, _⟩ => ⟨S16384x64x512, .f32⟩
  | .hbm, ⟨20, _⟩ => ⟨S16384x64x1, .i1⟩
  | .hbm, ⟨21, _⟩ => ⟨S_, .f32⟩
  | .hbm, ⟨22, _⟩ => ⟨S_, .f32⟩
  | .hbm, ⟨23, _⟩ => ⟨S16384x64x512, .i1⟩
  | .hbm, ⟨24, _⟩ => ⟨S16384x64x512, .f32⟩
  | .hbm, ⟨25, _⟩ => ⟨S16384x64x512, .f32⟩
  | .hbm, ⟨26, _⟩ => ⟨S_, .f32⟩
  | .hbm, ⟨27, _⟩ => ⟨S16384x512, .f32⟩
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_call0_c : Ref sig .tc := ⟨.hbm, 10, rfl⟩
abbrev main_call0_call0_v0 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩

abbrev nD : Nat := 1
abbrev τ : Topo := Topo.v7x

variable {F : FTy → Type} [FloatOps F]
-- ==== Proof.Proto.lean ====
/-
The protocol of the sixteen devices: what each memory row is, which semaphore cell pays for which row, what every
device owes at the start, and the order of the waits.

Every device keeps a table `cc0_scratch0` of sixteen expert blocks (one row per device) and a table `cc0_scratch1` of
sixteen count rows. A device fills its own row of both, sends its count row to everybody, and passes expert blocks
around two rings: slots 0 to 7 go one device up, slots 8 to 14 one device down. All copies of a row hold the same
contents, so one function (`wAll`, `cAll`) describes each table on all devices.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.Ring
public import Idealize.ShloMosaic.Lib.Tactic

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every counter zero. -/
def s₀ : MemSt nD τ sig (Elt F) := ⟨m, fun _ => 0, ρ⟩

/-! ## Devices and slots -/

/-- The device `k` places further round. -/
def rot (c : Dev nD) (k : ℕ) : Dev nD := ⟨(c.val + k) % 16, Nat.mod_lt _ (by decide)⟩

theorem rot_rot (c : Dev nD) (a b : ℕ) : rot (rot c a) b = rot c (a + b) :=
  Fin.ext (by simp only [rot]; omega)
theorem rot_full (c : Dev nD) {k : ℕ} (h : k = 16) : rot c k = c := by
  subst h; exact Fin.ext (by have := c.isLt; simp only [rot, nD] at *; omega)

/-- Turning by `a`, undone by turning by `b`. -/
def rotEquiv (a b : ℕ) (h : a + b = 16) : Dev nD ≃ Dev nD where
  toFun c := rot c a
  invFun c := rot c b
  left_inv c := by
    show rot (rot c a) b = c
    rw [rot_rot]; exact rot_full c h
  right_inv c := by
    show rot (rot c b) a = c
    rw [rot_rot]; exact rot_full c (by omega)

/-- Who receives what `c` sends in slot `i`: one up for slots 0 to 7, one down for slots 8 to 14. -/
def wdst (c : Dev nD) (i : Fin 15) : Dev nD := rot c (if i.val < 8 then 1 else 15)
/-- Who sends what `c` receives in slot `i`. -/
def wfrom (c : Dev nD) (i : Fin 15) : Dev nD := rot c (if i.val < 8 then 15 else 1)
/-- The row `c` sends in slot `i`. -/
def wsrc (c : Dev nD) (i : Fin 15) : Dev nD := rot c (if i.val < 8 then 16 - i.val else i.val - 8)
/-- The row `c` receives in slot `i`. -/
def wrow (c : Dev nD) (i : Fin 15) : Dev nD := wsrc (wfrom c i) i

theorem wfrom_wdst (c : Dev nD) (i : Fin 15) : wfrom (wdst c i) i = c := by
  unfold wfrom wdst; rw [rot_rot]; exact rot_full c (by split <;> rfl)
theorem wrow_wdst (c : Dev nD) (i : Fin 15) : wrow (wdst c i) i = wsrc c i := by unfold wrow; rw [wfrom_wdst]

/-- The barrier signal that carries the rows of slot `i`: the receiver's last signal for the slots it receives from
    below, its first for those from above. -/
def via (i : Fin 15) : Fin 15 := if i.val < 8 then 14 else 0

/-! ## Memory rows -/

abbrev xM : Memref sig .tc .vmem S1024x256 .bf16 := Memref.whole cc0_stg0_0
abbrev rM : Memref sig .tc .vmem S1024x1 .i32 := Memref.whole cc0_stg1_0
abbrev eM : Memref sig .tc .vmem S4x256x512 .bf16 := Memref.whole cc0_stg2_0
abbrev oM : Memref sig .tc .vmem S1024x512 .f32 := Memref.whole cc0_stg3_0
abbrev wM : Memref sig .tc .vmem S16x4x256x512 .bf16 := Memref.whole cc0_scratch0
abbrev cM : Memref sig .tc .vmem S16x8x128 .i32 := Memref.whole cc0_scratch1

theorem wInb (s : Dev nD) : ∀ a, (![s.val, 0, 0, 0] : Fin 4 → ℕ) a + S1x4x256x512.size a ≤ S16x4x256x512.size a := by
  revert s; decide +kernel
theorem cInb (s : Dev nD) : ∀ a, (![s.val, 0, 0] : Fin 3 → ℕ) a + S1x8x128.size a ≤ S16x8x128.size a := by
  revert s; decide +kernel

abbrev wRect (s : Dev nD) : Rect S16x4x256x512 := Rect.unit (s := S16x4x256x512) ![s.val, 0, 0, 0] S1x4x256x512.size (wInb s)
abbrev cRect (s : Dev nD) : Rect S16x8x128 := Rect.unit (s := S16x8x128) ![s.val, 0, 0] S1x8x128.size (cInb s)

/-- Row `s` of the expert table, and of the count table, as the copies address it. -/
abbrev wRow (s : Dev nD) : Memref sig .tc .vmem S4x256x512 .bf16 :=
  (wM.slice (wRect s) (fun _ => rfl)).squeeze S4x256x512 squeezes_S1x4x256x512_S4x256x512
abbrev cRow (s : Dev nD) : Memref sig .tc .vmem S8x128 .i32 :=
  (cM.slice (cRect s) (fun _ => rfl)).squeeze S8x128 squeezes_S1x8x128_S8x128

theorem wRow_set (s : Dev nD) : (wRow s).view.set = (wM.access (wRect s)).set := View.set_reshape _ _
theorem cRow_set (s : Dev nD) : (cRow s).view.set = (cM.access (cRect s)).set := View.set_reshape _ _

theorem mem_wRow (s : Dev nD) (i : S16x4x256x512.Idx) : i ∈ (wRow s).view.set ↔ (i 0).val = s.val := by
  rw [wRow_set, show (wM.access (wRect s)).set = (wRect s).set from View.set_slice_whole _ _, Rect.mem_set_unit]
  constructor
  · intro h; have := h 0; simp [S1x4x256x512] at this; omega
  · intro h a
    have := (i a).isLt
    fin_cases a
    · simp [S1x4x256x512, h]
    all_goals (simp [S1x4x256x512, S16x4x256x512] at this ⊢; try omega)

theorem mem_cRow (s : Dev nD) (i : S16x8x128.Idx) : i ∈ (cRow s).view.set ↔ (i 0).val = s.val := by
  rw [cRow_set, show (cM.access (cRect s)).set = (cRect s).set from View.set_slice_whole _ _, Rect.mem_set_unit]
  constructor
  · intro h; have := h 0; simp [S1x8x128] at this; omega
  · intro h a
    have := (i a).isLt
    fin_cases a
    · simp [S1x8x128, h]
    all_goals (simp [S1x8x128, S16x8x128] at this ⊢; try omega)

abbrev Nw : ℕ := (wRow 0).view.dmaCredit
abbrev Nc : ℕ := (cRow 0).view.dmaCredit
theorem Nw_pos : 0 < Nw := View.dmaCredit_pos _ (by decide)
theorem Nc_pos : 0 < Nc := View.dmaCredit_pos _ (by decide)

/-! ## Contents -/

/-- The staged blocks of device `c`: tokens, routes, experts. -/
def xstg (c : Dev nD) : (cc0_stg0_0 : Ref sig .tc).ty.Contents (Elt F) :=
  (win0_0.blk (0 : Fin 1)).view.read (Elt F) (m ((c : Thread nD τ).loc main_arg0))
def rstg (c : Dev nD) : (cc0_stg1_0 : Ref sig .tc).ty.Contents (Elt F) :=
  (win0_1.blk (0 : Fin 1)).view.read (Elt F) (m ((c : Thread nD τ).loc main_arg2))
def estg (c : Dev nD) : (cc0_stg2_0 : Ref sig .tc).ty.Contents (Elt F) :=
  (win0_2.blk (0 : Fin 1)).view.read (Elt F) (m ((c : Thread nD τ).loc main_arg3))

/-- The expert table's contents (row `s`: device `s`'s experts), the count table's (row `s`: device `s`'s counts). -/
def wAll : S16x4x256x512.Idx → Elt F .bf16 := fun i =>
  (wM.access (wRect (i 0))).write (Elt F) (m (((0 : Dev nD) : Thread nD τ).loc cc0_scratch0)) (k0_pay5 (estg m (i 0))) Finset.univ i
def cAll : S16x8x128.Idx → Elt F .i32 := fun i =>
  (cM.access (cRect (i 0))).write (Elt F) (m (((0 : Dev nD) : Thread nD τ).loc cc0_scratch1)) (k0_pay6 (k0_pay3 (rstg m (i 0)))) Finset.univ i

/-! ## Rows held -/

def wPts (c s : Dev nD) (q : PosShare TreeShare) (f : S16x4x256x512.Idx → Elt F .bf16) : sProp 𝕄 :=
  (wRow s).view.loc (c : Thread nD τ) ↦[(wRow s).view.set]{q} f
def cPts (c s : Dev nD) (q : PosShare TreeShare) (f : S16x8x128.Idx → Elt F .i32) : sProp 𝕄 :=
  (cRow s).view.loc (c : Thread nD τ) ↦[(cRow s).view.set]{q} f

omit [FloatOps F] in
instance wPts_storable (c s : Dev nD) (q) (f) : BI.Storable (upEmb : UEmb _ 𝕄) (wPts (F := F) c s q f) := by unfold wPts; infer_instance
omit [FloatOps F] in
instance cPts_storable (c s : Dev nD) (q) (f) : BI.Storable (upEmb : UEmb _ 𝕄) (cPts (F := F) c s q f) := by unfold cPts; infer_instance

/-- The share of a row a copy takes: slots 0 and 8 send the device's own row, of which two copies and the device's
    own loads each need a part; the other slots need two parts. -/
def qS (i : Fin 15) : PosShare TreeShare := if i.val = 8 then fullShare.right.left else fullShare.left

/-! ## The cells -/

/-- The barrier semaphore. -/
abbrev barS : Sem sig := (SemArray.scalar (sig.barrier 0 rfl) : Sems sig S_).sem
/-- The kernel's own semaphores: family 0 expert sends, 1 expert receipts, 2 count sends, 3 count receipts. -/
def dsem (k : Fin 4 × Fin 15) : DmaSem sig := ⟨4 + 15 * k.1.val + k.2.val, by
  obtain ⟨a, b⟩ := k; have := a.isLt; have := b.isLt; show _ < 64; dsimp only; omega⟩
abbrev osem (k : Fin 4 × Fin 15) : SemLoc sig := .dma (dsem k)
abbrev barCell (c : Dev nD) : GSem nD τ sig := ((c : Thread nD τ), .reg barS)
abbrev dCell (c : Dev nD) (k : Fin 4 × Fin 15) : GSem nD τ sig := ((c : Thread nD τ), osem k)

/-- Which of its own semaphores a number names. -/
def dkey (q : DmaSem sig) : Fin 4 × Fin 15 :=
  (⟨(q.val - 4) / 15 % 4, Nat.mod_lt _ (by decide)⟩, ⟨(q.val - 4) % 15, Nat.mod_lt _ (by decide)⟩)
theorem dkey_dsem (k : Fin 4 × Fin 15) : dkey (dsem k) = k := by revert k; decide +kernel
theorem dsem_ge (k : Fin 4 × Fin 15) : 4 ≤ (dsem k).val := by simp only [dsem]; omega
theorem osem_inj : Function.Injective osem := fun a b h => by
  rw [← dkey_dsem a, ← dkey_dsem b]; exact congrArg dkey (SemLoc.dma.inj h)
theorem osem_ne_bar (k : Fin 4 × Fin 15) : osem k ≠ .reg barS := fun h => by cases h

/-! ## The schedule -/

/-- What `p`'s barrier signal number `j` hands its receiver `rot p (j + 1)`: the receiver's row of `p`'s count table, and
    the rows of `p`'s expert table the receiver will fill. -/
def barPay (p : Dev nD) (j : Fin 15) : sProp 𝕄 :=
  iprop((∃ f, cPts (F := F) p (rot p (j.val + 1)) fullShare f)
    ∗ bigSep (Finset.univ.filter fun i : Fin 15 => via i = j) fun i => iprop(∃ f, wPts (F := F) p (wrow p i) fullShare f))

/-- What a copy's cells hand over: the source's share back at a send cell, the row with its contents at a receipt cell. -/
def dmaPay (c : Dev nD) (k : Fin 4 × Fin 15) : sProp 𝕄 :=
  if k.1 = 0 then wPts c (wsrc c k.2) (qS k.2) (wAll m)
  else if k.1 = 1 then wPts c (wrow c k.2) fullShare (wAll m)
  else if k.1 = 2 then cPts c c (Transfers.shareTokN fullShare k.2.val) (cAll m)
  else cPts c (rot c (15 - k.2.val)) fullShare (cAll m)

def dmaAmt (k : Fin 4 × Fin 15) : ℕ := if k.1.val < 2 then Nw else Nc

abbrev IsBar (g : GSem nD τ sig) : Prop := g.1.2 = .tc ∧ g.2 = .reg barS

/-- One round. A barrier cell has fifteen duties of one unit each, one per other device; a copy's cell one duty, of the
    copy's bytes. -/
def Rd : Rounds.Schedule (GSem nD τ sig) (Fin 15) 𝕄 where
  duties g r := if r = 0 ∧ g.1.2 = .tc then
      (match g.2 with
        | .reg q => if q = barS then Finset.univ else ∅
        | .dma q => if 4 ≤ q.val then {0} else ∅)
    else ∅
  unitless _ := False
  amount g _ _ := match g.2 with
    | .reg _ => 1
    | .dma q => dmaAmt (dkey q)
  payload g _ d := match g.2 with
    | .reg _ => barPay (rot g.1.1 (15 - d.val)) d
    | .dma q => dmaPay m g.1.1 (dkey q)
  amount_pos g _ _ _ := by
    rcases g with ⟨t, q | q⟩
    · exact Nat.one_pos
    · show 0 < dmaAmt (dkey q)
      unfold dmaAmt; split
      · exact Nw_pos
      · exact Nc_pos

instance Rd_storable (g : GSem nD τ sig) (r : ℕ) (d : Fin 15) :
    BI.Storable (upEmb : UEmb _ 𝕄) ((Rd (F := F) m).payload g r d) := by
  rcases g with ⟨t, q | q⟩
  · show BI.Storable upEmb (barPay (rot t.1 (15 - d.val)) d)
    unfold barPay; infer_instance
  · show BI.Storable upEmb (dmaPay m t.1 (dkey q))
    unfold dmaPay; (repeat' split) <;> infer_instance

section Facts
variable (c : Dev nD) (k : Fin 4 × Fin 15)

theorem duties_bar : (Rd (F := F) m).duties (barCell c) 0 = Finset.univ := by
  dsimp only [Rd]; rw [if_pos ⟨rfl, rfl⟩, if_pos rfl]
theorem duties_dma : (Rd (F := F) m).duties (dCell c k) 0 = {0} := by
  dsimp only [Rd]; rw [if_pos ⟨rfl, rfl⟩, if_pos (dsem_ge k)]
theorem duties_later (g : GSem nD τ sig) : ∀ r, 1 ≤ r → (Rd (F := F) m).duties g r = ∅ :=
  fun r hr => by dsimp only [Rd]; rw [if_neg fun h => by omega]
theorem amount_bar (d : Fin 15) : (Rd (F := F) m).amount (barCell c) 0 d = 1 := rfl
theorem amount_dma (d : Fin 15) : (Rd (F := F) m).amount (dCell c k) 0 d = dmaAmt k := by
  show dmaAmt (dkey (dsem k)) = _; rw [dkey_dsem]
theorem payload_bar (d : Fin 15) : (Rd (F := F) m).payload (barCell c) 0 d = barPay (rot c (15 - d.val)) d := rfl
theorem payload_dma (d : Fin 15) : (Rd (F := F) m).payload (dCell c k) 0 d = dmaPay m c k := by
  show dmaPay m c (dkey (dsem k)) = _; rw [dkey_dsem]
theorem expect_bar : (Rd (F := F) m).expect (barCell c) 0 = 15 := by
  unfold Schedule.expect Schedule.amountOf
  rw [duties_bar, Finset.sum_congr rfl fun d _ => amount_bar m c d, Finset.sum_const, Finset.card_univ, Fintype.card_fin, smul_eq_mul]
theorem expect_dma : (Rd (F := F) m).expect (dCell c k) 0 = dmaAmt k := by
  unfold Schedule.expect Schedule.amountOf; rw [duties_dma, Finset.sum_singleton, amount_dma]
theorem rest_bar : bigSep ((Rd (F := F) m).duties (barCell c) 0 \ ∅) (fun d => (Rd (F := F) m).payload (barCell c) 0 d)
    = bigSep Finset.univ fun d : Fin 15 => barPay (rot c (15 - d.val)) d := by
  rw [Finset.sdiff_empty, duties_bar]; rfl
theorem rest_dma : bigSep ((Rd (F := F) m).duties (dCell c k) 0 \ ∅) (fun d => (Rd (F := F) m).payload (dCell c k) 0 d) = dmaPay m c k := by
  rw [Finset.sdiff_empty, duties_dma, bigSep_singleton, payload_dma]

end Facts

/-! ## What a device owes, in the order it pays; the levels -/

/-- The slot of the ring copies in program order: up, down, up, down, …, the last one up. -/
def pslot (n : ℕ) : Fin 15 := ⟨(if n % 2 = 0 then n / 2 else 8 + n / 2) % 15, Nat.mod_lt _ (by decide)⟩
/-- Payment `k`: how far round its receiver is, which of the receiver's cells it pays, how much. -/
def prot (k : ℕ) : ℕ := if k < 15 then k + 1 else if k < 30 then k - 15 + 1 else if (pslot (k - 30)).val < 8 then 1 else 15
def psem (k : ℕ) : SemLoc sig := if k < 15 then .reg barS
  else if k < 30 then osem (3, ⟨(k - 15) % 15, Nat.mod_lt _ (by decide)⟩) else osem (1, pslot (k - 30))
def pamt (k : ℕ) : ℕ := if k < 15 then 1 else if k < 30 then Nc else Nw
def pcell (c : Dev nD) (k : ℕ) : GSem nD τ sig := ((rot c (prot k) : Thread nD τ), psem k)

/-- What device `c` still owes after its first `n` payments. -/
def owed (c : Dev nD) (n : ℕ) : CellTallies nD τ sig Unit := ∑ k ∈ Finset.Ico n 45, tallyAt (pcell c k) () (pamt k)

theorem owed_step (c : Dev nD) (n : ℕ) (h : n < 45) : owed c n = owed c (n + 1) + tallyAt (pcell c n) () (pamt n) := by

  have e : Finset.Ico n 45 = insert n (Finset.Ico (n + 1) 45) := by ext k; simp only [Finset.mem_insert, Finset.mem_Ico]; omega
  unfold owed; rw [e, Finset.sum_insert (by simp), add_comm]
theorem owed_end (c : Dev nD) : owed c 45 = 0 := by unfold owed; simp

def L (g : GSem nD τ sig) : Finset Unit := if g.1.2 = .tc then {()} else ∅
/-- Barrier cells at 1, count receipts at 2, expert receipts at 3 and up by hops, everything else at 0. -/
def slv (sm : SemLoc sig) : ℕ := match sm with
  | .reg _ => 1
  | .dma q => if q.val < 19 then 0 else if q.val < 34 then 3 + (q.val - 19) % 8 else if q.val < 49 then 0 else 2
def lv (g : GSem nD τ sig) (_ : Unit) : ℕ := slv g.2
def plv (k : ℕ) : ℕ := if k < 15 then 1 else if k < 30 then 2 else 3 + (k - 30) / 2

theorem slv_psem : ∀ k : Fin 45, slv (psem k.val) = plv k.val := by decide +kernel
theorem lv_pcell (c : Dev nD) (k : ℕ) (h : k < 45) : lv (pcell c k) () = plv k := slv_psem ⟨k, h⟩

theorem L_of_ne (g : GSem nD τ sig) (h : g.1.2 ≠ .tc) : L g = ∅ := if_neg h
theorem L_tc (c : Dev nD) (sm : SemLoc sig) : L ((c : Thread nD τ), sm) = {()} := if_pos rfl

theorem owed_pos {c : Dev nD} {n : ℕ} {g : GSem nD τ sig} {u : Unit} (h : 0 < owed c n g u) :
    ∃ k, n ≤ k ∧ k < 45 ∧ g = pcell c k := by
  by_contra hn
  push Not at hn
  refine absurd h (Nat.not_lt.2 (Nat.le_of_eq ?_))
  unfold owed
  rw [Finset.sum_apply, Finsupp.finset_sum_apply]
  refine Finset.sum_eq_zero fun k hk => ?_
  rw [Finset.mem_Ico] at hk
  rw [tallyAt_apply, if_neg fun h' => hn k hk.1 hk.2 h'.1]

/-- A device may wait at a cell below everything it still owes. -/
theorem mayWait (c : Dev nD) (sm : SemLoc sig) (n : ℕ) (h : ∀ k : Fin 45, n ≤ k.val → slv sm < plv k.val) :
    (levAts L lv : sProp 𝕄) ⊢ MayWait (c : Thread nD τ) sm () (owed c n) :=
  MayOwe.of_cut (L := L) (lev := lv) (slv sm) (fun p hp => by rw [Finset.mem_singleton.mp hp, L_tc]; exact Finset.mem_singleton_self _)
    (fun g u hg => by obtain ⟨k, _, _, rfl⟩ := owed_pos hg; exact Finset.mem_singleton_self _)
    (fun p hp => by rw [Finset.mem_singleton.mp hp]; exact le_refl _)
    (fun g u hg => by
      obtain ⟨k, h1, h2, rfl⟩ := owed_pos hg
      rw [lv_pcell c k h2]; exact h ⟨k, h2⟩ h1)

end Cert.Moe

end
-- ==== Proof.Steps.lean ====
/-
One step lemma per kind of operation of the kernel, over one bundle of what a device holds. The bundle counts how far
each of the four families of copies has got.
-/
module

public import proofs.«01_k».proof.Proof.Proto

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## Families in three phases -/

section Phases
variable {N : ℕ} (A B C : Fin N → sProp (MT nD τ sig Unit (Elt F) ℕ UU ℕ))

/-- The first `s` members are in phase `C`, those up to `p` in phase `B`, the rest in phase `A`. -/
def Ph (p s : ℕ) : sProp 𝕄 := bigSep Finset.univ fun i : Fin N => if i.val < s then C i else if i.val < p then B i else A i

omit [FloatOps F] in
/-- One member is taken out and put back changed. -/
theorem bigSep_swap {I : Type} [Fintype I] [DecidableEq I] (i : I) (Φ Ψ : I → sProp 𝕄) (h : ∀ j, j ≠ i → Φ j = Ψ j) :
    bigSep Finset.univ Φ ⊢ iprop(Φ i ∗ (Ψ i -∗ bigSep Finset.univ Ψ)) := by
  rw [bigSep_univ_at Φ i, bigSep_univ_at Ψ i, bigSep_congr (Ψ := Ψ) fun j hj => h j (Finset.ne_of_mem_erase hj)]
  iintro ⟨H1, H2⟩
  isplitl [H1]; · iexact H1
  iintro H3
  isplitl [H3]; · iexact H3
  iexact H2

variable {A B C}

omit [FloatOps F] in
theorem Ph_fst {p s : ℕ} (h : p < N) (hs : s ≤ p) : Ph A B C p s ⊢ iprop(A ⟨p, h⟩ ∗ (B ⟨p, h⟩ -∗ Ph A B C (p + 1) s)) := by
  unfold Ph
  have := bigSep_swap (⟨p, h⟩ : Fin N) (fun i : Fin N => if i.val < s then C i else if i.val < p then B i else A i)
    (fun i : Fin N => if i.val < s then C i else if i.val < p + 1 then B i else A i) (fun j hj => by
      have : j.val ≠ p := fun e => hj (Fin.ext e)
      simp only [show j.val < p + 1 ↔ j.val < p by omega])
  simp only [show ¬ p < s by omega, lt_irrefl, Nat.lt_succ_self, if_false, if_true] at this
  exact this

omit [FloatOps F] in
theorem Ph_snd {p s : ℕ} (h : s < N) (hs : s < p) : Ph A B C p s ⊢ iprop(B ⟨s, h⟩ ∗ (C ⟨s, h⟩ -∗ Ph A B C p (s + 1))) := by
  unfold Ph
  have := bigSep_swap (⟨s, h⟩ : Fin N) (fun i : Fin N => if i.val < s then C i else if i.val < p then B i else A i)
    (fun i : Fin N => if i.val < s + 1 then C i else if i.val < p then B i else A i) (fun j hj => by
      have : j.val ≠ s := fun e => hj (Fin.ext e)
      simp only [show j.val < s + 1 ↔ j.val < s by omega])
  simp only [hs, lt_irrefl, Nat.lt_succ_self, if_false, if_true] at this
  exact this

omit [FloatOps F] in
theorem Ph_at {p s : ℕ} (i : Fin N) (h : i.val < s) : Ph A B C p s ⊢ iprop(C i ∗ (C i -∗ Ph A B C p s)) := by
  unfold Ph
  have := bigSep_swap i (fun i : Fin N => if i.val < s then C i else if i.val < p then B i else A i)
    (fun i : Fin N => if i.val < s then C i else if i.val < p then B i else A i) (fun j hj => rfl)
  simp only [h, if_true] at this
  exact this

omit [FloatOps F] in
theorem Ph_start : Ph A B C 0 0 = bigSep Finset.univ A := by
  unfold Ph; exact bigSep_congr fun i _ => by simp
omit [FloatOps F] in
theorem Ph_mid : Ph A B C N 0 = bigSep Finset.univ B := by
  unfold Ph; exact bigSep_congr fun i _ => by simp
omit [FloatOps F] in
theorem Ph_end {p : ℕ} : Ph A B C p N = bigSep Finset.univ C := by
  unfold Ph; exact bigSep_congr fun i _ => by simp

end Phases

/-! ## What a device holds -/

variable (Kb : Dev nD → ℕ) (Kd : Dev nD × (Fin 4 × Fin 15) → ℕ)

/-- All cells' invariants, that all are at round 0 at least, and the levels. -/
def records : sProp 𝕄 :=
  iprop((bigSep Finset.univ fun c : Dev nD => iprop(cellInv ER (Rd (F := F) m) (Kb c) (barCell c) ∗ reached ER (barCell c) 0))
    ∗ (bigSep Finset.univ fun p : Dev nD × (Fin 4 × Fin 15) => iprop(cellInv ER (Rd (F := F) m) (Kd p) (dCell p.1 p.2) ∗ reached ER (dCell p.1 p.2) 0))
    ∗ levAts L lv)

instance records_persistent : BI.Persistent (records (F := F) m Kb Kd) := by unfold records; infer_instance

theorem records_bar (c : Dev nD) : records m Kb Kd ⊢ iprop(cellInv ER (Rd (F := F) m) (Kb c) (barCell c) ∗ reached ER (barCell c) 0) := by
  unfold records
  exact sep_elim_left.trans (bigSep_elim (Φ := fun c : Dev nD => iprop(cellInv ER (Rd (F := F) m) (Kb c) (barCell c) ∗ reached ER (barCell c) 0))
    (Finset.mem_univ c))
theorem records_dma (c : Dev nD) (k : Fin 4 × Fin 15) :
    records m Kb Kd ⊢ iprop(cellInv ER (Rd (F := F) m) (Kd (c, k)) (dCell c k) ∗ reached ER (dCell c k) 0) := by
  unfold records
  exact sep_elim_right.trans (sep_elim_left.trans (bigSep_elim (Φ := fun p : Dev nD × (Fin 4 × Fin 15) => iprop(cellInv ER (Rd (F := F) m) (Kd p) (dCell p.1 p.2) ∗ reached ER (dCell p.1 p.2) 0))
    (Finset.mem_univ (c, k))))
theorem records_lev : records m Kb Kd ⊢ (levAts L lv : sProp 𝕄) := by
  unfold records; iintro ⟨-, -, H⟩; iexact H

variable (c : Dev nD)

/-- `c` has made its first `n` payments. -/
def ow (n : ℕ) : sProp 𝕄 := iprop(∃ W, owes (c : Thread nD τ) (owed c n) W)

/-- Before the signal `j`; before, during and after the count send `j`; before and after the count receipt `j`. -/
def SgA (j : Fin 15) : sProp 𝕄 := iprop(dutyTok ER (barCell (rot c (j.val + 1))) 0 j ∗ barPay (F := F) c j)
def CsA (j : Fin 15) : sProp 𝕄 :=
  iprop(dutyTok ER (dCell c (2, j)) 0 (0 : Fin 15) ∗ dutyTok ER (dCell (rot c (j.val + 1)) (3, j)) 0 (0 : Fin 15)
    ∗ (∃ f, cPts (F := F) (rot c (j.val + 1)) c fullShare f) ∗ cPts c c (Transfers.shareTokN fullShare j.val) (cAll m)
    ∗ atPos ER (dCell c (2, j)) 0 ∅ 0)
def CsB (j : Fin 15) : sProp 𝕄 := iprop(cred (tallyAt (dCell c (2, j)) () Nc) ∗ atPos ER (dCell c (2, j)) 0 ∅ 0)
def CsC (j : Fin 15) : sProp 𝕄 := iprop(cPts c c (Transfers.shareTokN fullShare j.val) (cAll m) ∗ atPos ER (dCell c (2, j)) 1 ∅ 0)
def CrB (j : Fin 15) : sProp 𝕄 := iprop(cred (tallyAt (dCell c (3, j)) () Nc) ∗ atPos ER (dCell c (3, j)) 0 ∅ 0)
def CrC (j : Fin 15) : sProp 𝕄 := iprop(cPts c (rot c (15 - j.val)) fullShare (cAll m) ∗ atPos ER (dCell c (3, j)) 1 ∅ 0)

/-- The same for the `n`-th expert send and receipt in program order; a received row keeps its right half for the
    device's own loads, its left half is what the device passes on. -/
def WsA (n : Fin 15) : sProp 𝕄 :=
  iprop(dutyTok ER (dCell c (0, pslot n.val)) 0 (0 : Fin 15) ∗ dutyTok ER (dCell (wdst c (pslot n.val)) (1, pslot n.val)) 0 (0 : Fin 15)
    ∗ (∃ f, wPts (F := F) (wdst c (pslot n.val)) (wsrc c (pslot n.val)) fullShare f) ∗ atPos ER (dCell c (0, pslot n.val)) 0 ∅ 0)
def WsB (n : Fin 15) : sProp 𝕄 :=
  iprop(cred (tallyAt (dCell c (0, pslot n.val)) () Nw) ∗ atPos ER (dCell c (0, pslot n.val)) 0 ∅ 0)
def WsC (n : Fin 15) : sProp 𝕄 :=
  iprop(wPts c (wsrc c (pslot n.val)) (qS (pslot n.val)) (wAll m) ∗ atPos ER (dCell c (0, pslot n.val)) 1 ∅ 0)
def WrB (n : Fin 15) : sProp 𝕄 :=
  iprop(cred (tallyAt (dCell c (1, pslot n.val)) () Nw) ∗ atPos ER (dCell c (1, pslot n.val)) 0 ∅ 0)
def WrC (n : Fin 15) : sProp 𝕄 :=
  iprop(wPts c (wrow c (pslot n.val)) fullShare.right (wAll m) ∗ atPos ER (dCell c (1, pslot n.val)) 1 ∅ 0)
/-- What send `n` reads: the device's own row twice, then the rows received two receipts earlier. -/
def WqB (n : Fin 17) : sProp 𝕄 :=
  if n.val = 0 then wPts c c fullShare.left (wAll m)
  else if n.val = 1 then wPts c c fullShare.right.left (wAll m)
  else wPts c (wrow c (pslot (n.val - 2))) fullShare.left (wAll m)

/-- What a device holds after its barrier: `n` payments made; `cp` count sends, `cs` of them waited for, `cr` counts
    received; `wp`, `ws`, `wr` the same for the expert rows. -/
def St (n cp cs cr wp ws wr : ℕ) : sProp 𝕄 :=
  iprop(records m Kb Kd ∗ ow (F := F) c n
    ∗ Ph (CsA m c) (CsB c) (CsC m c) cp cs ∗ Ph (CrB c) (CrB c) (CrC m c) 15 cr ∗ cPts c c (Transfers.shareDrop fullShare 15) (cAll m)
    ∗ Ph (WsA c) (WsB c) (WsC m c) wp ws ∗ Ph (WrB c) (WrB c) (WrC m c) 15 wr
    ∗ Ph (fun _ => iprop(emp)) (WqB m c) (fun _ => iprop(emp)) (wr + 2) wp ∗ wPts c c fullShare.right.right (wAll m))

theorem wsrc_pslot : ∀ (c : Dev nD) (n : Fin 15), wsrc c (pslot n.val) = if n.val = 0 then c else if n.val = 1 then c else wrow c (pslot (n.val - 2)) := by
  decide +kernel
theorem qS_pslot : ∀ n : Fin 15, (pslot n.val).val = 8 ↔ n.val = 1 := by decide +kernel
theorem WqB_eq (n : Fin 15) : WqB m c ⟨n.val, by omega⟩ = wPts c (wsrc c (pslot n.val)) (qS (pslot n.val)) (wAll m) := by
  unfold WqB qS; rw [wsrc_pslot]
  by_cases h0 : n.val = 0
  · rw [if_pos h0, if_pos h0, if_neg (by rw [qS_pslot]; omega)]
  by_cases h1 : n.val = 1
  · rw [if_neg h0, if_pos h1, if_neg h0, if_pos h1, if_pos ((qS_pslot n).2 h1)]
  · rw [if_neg h0, if_neg h1, if_neg h0, if_neg h1, if_neg (fun h => h1 ((qS_pslot n).1 h))]

/-! ## Contents landed -/

theorem wLand (s : Dev nD) (f : S16x4x256x512.Idx → Elt F .bf16) : ∀ i ∈ (wRow s).view.set,
    (wRow s).view.write (Elt F) f ((wRow s).view.read (Elt F) (wAll m)) Finset.univ i = wAll m i := by
  intro i hi
  rw [View.write_read_eq_piecewise, View.setOn_univ]
  exact Finset.piecewise_eq_of_mem _ _ _ hi
theorem cLand (s : Dev nD) (f : S16x8x128.Idx → Elt F .i32) : ∀ i ∈ (cRow s).view.set,
    (cRow s).view.write (Elt F) f ((cRow s).view.read (Elt F) (cAll m)) Finset.univ i = cAll m i := by
  intro i hi
  rw [View.write_read_eq_piecewise, View.setOn_univ]
  exact Finset.piecewise_eq_of_mem _ _ _ hi

/-! ## The steps -/

variable {Q : PUnit → sProp 𝕄}

/-- A signal. -/
theorem wp_sig (j : Fin 15) {r : Dev nD} (hr : r = rot c (j.val + 1)) {α : Type} {Q : α → sProp 𝕄}
    {k : PUnit → Prog (TpuEff nD τ sig (Elt F) Λ₀ .tc) α} {a : ℕ} (ha : a = 1) :
    iprop(records m Kb Kd ∗ ow (F := F) c j.val ∗ Ph (SgA c) (fun _ => iprop(emp)) (fun _ => iprop(emp)) j.val 0)
      ⊢ iprop(((records m Kb Kd ∗ ow (F := F) c (j.val + 1) ∗ Ph (SgA c) (fun _ => iprop(emp)) (fun _ => iprop(emp)) (j.val + 1) 0)
            -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (r : Thread nD τ) barS a) k) Q) := by
  subst hr ha
  have hj := j.isLt
  iintro ⟨#HR, HO, HP⟩ Hk
  unfold ow; icases HO with ⟨%W, HO⟩
  ihave HP' := (Ph_fst j.isLt (Nat.zero_le _)) $$ HP
  icases HP' with ⟨HA, HP⟩
  unfold SgA; icases HA with ⟨Ht, Hpay⟩
  ihave HI := (records_bar m Kb Kd (rot c (j.val + 1))) $$ HR
  icases HI with ⟨#HI, #Hr⟩
  iapply (Rounds.wp_signal 𝒱₀ ER (Rd m) (c : Thread nD τ) none (dst := (rot c (j.val + 1) : Thread nD τ)) (κ := Kb (rot c (j.val + 1)))
      (d := j) (by rw [duties_bar]; exact Finset.mem_univ _) (amount_bar m (rot c (j.val + 1)) j) () (O₀ := owed c j.val) (owed c (j.val + 1)) (by
        rw [owed_step c j.val (by omega)]
        unfold pcell prot psem pamt; rw [if_pos hj, if_pos hj, if_pos hj]) (W := W)) $$ [HO Ht Hpay]
  · isplitr; · iexact HI
    isplitl [HO]; · iexact HO
    isplitl [Ht]; · iexact Ht
    isplitl [Hpay]
    · rw [payload_bar, rot_rot, show rot c (j.val + 1 + (15 - j.val)) = c from rot_full c (by omega)]; iexact Hpay
    iexact Hr
  iintro HO
  iapply Hk
  isplitr; · iexact HR
  isplitl [HO]; · iexists W; iexact HO
  iapply HP; iempintro

/-- The wait at the barrier: every device's payload. -/
theorem wp_barwait {α : Type} {Q : α → sProp 𝕄} {k : PUnit → Prog (TpuEff nD τ sig (Elt F) Λ₀ .tc) α} {a : ℕ} (ha : a = 15) :
    iprop(records m Kb Kd ∗ ow (F := F) c 15 ∗ cred (tallyAt (barCell c) () 15) ∗ atPos ER (barCell c) 0 ∅ 0)
      ⊢ iprop(((ow (F := F) c 15 ∗ atPos ER (barCell c) 1 ∅ 0 ∗ bigSep Finset.univ fun d : Fin 15 => barPay (F := F) (rot c (15 - d.val)) d)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS a) k) Q) := by
  subst ha
  iintro ⟨#HR, HO, Hc, Hat⟩ Hk
  unfold ow; icases HO with ⟨%W, HO⟩
  ihave HI := (records_bar m Kb Kd c) $$ HR
  icases HI with ⟨#HI, -⟩
  iapply (Rounds.wp_wait_rest_token 𝒱₀ ER (Rd m) (c : Thread nD τ) none (κ := Kb c)
      (wpE_semWait_eq 𝒱₀ (c : Thread nD τ) none Set.univ) (Set.mem_univ _) () (O := owed c 15) (W := W) (R := 0) (m := 0) (T := ∅)
      (by rw [expect_bar])) $$ [Hc HO Hat]
  · isplitr; · iexact HI
    isplitl [Hc]; · iexact Hc
    isplitl [HO]; · iexact HO
    isplitr
    · iapply (mayWait c (.reg barS) 15 (by decide +kernel)); iapply (records_lev m Kb Kd); iexact HR
    iexact Hat
  iintro ⟨HO, Hat, -, Hpay⟩
  iapply Hk
  isplitl [HO]; · iexists _; iexact HO
  isplitl [Hat]; · iexact Hat
  iapply (Entails.of_eq (rest_bar m c)); iexact Hpay

/-- The wait at a copy's cell: what the copy hands over. -/
theorem wp_dwait (k₀ : Fin 4 × Fin 15) (n : ℕ) (hlev : ∀ k : Fin 45, n ≤ k.val → slv (osem k₀) < plv k.val)
    {sp sp' : Space} {s s' : Shape} {e e' : EltTy} {sm : DmaSem sig} (hsm : sm = dsem k₀)
    {src : Memref sig (c : Thread nD τ).2.kind sp' s' e'} {dst : Memref sig .tc sp s e} {hsrc : src.view.WordExact} {hdst : dst.view.WordExact}
    (hN : dst.view.dmaCredit = dmaAmt k₀)
    {α : Type} {Q : α → sProp 𝕄} {k : PUnit → Prog (TpuEff nD τ sig (Elt F) Λ₀ .tc) α} :
    iprop(records m Kb Kd ∗ ow (F := F) c n ∗ cred (tallyAt (dCell c k₀) () (dmaAmt k₀)) ∗ atPos ER (dCell c k₀) 0 ∅ 0)
      ⊢ iprop(((ow (F := F) c n ∗ atPos ER (dCell c k₀) 1 ∅ 0 ∗ dmaPay m c k₀)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  subst hsm
  iintro ⟨#HR, HO, Hc, Hat⟩ Hk
  unfold ow; icases HO with ⟨%W, HO⟩
  ihave HI := (records_dma m Kb Kd c k₀) $$ HR
  icases HI with ⟨#HI, -⟩
  rw [← hN]
  iapply (Rounds.wp_wait_rest_token 𝒱₀ ER (Rd m) (c : Thread nD τ) none (κ := Kd (c, k₀))
      (wpE_waitDma2_eq 𝒱₀ (c : Thread nD τ) none Set.univ) (Set.mem_univ _) () (O := owed c n) (W := W) (R := 0) (m := 0) (T := ∅)
      (by rw [expect_dma, hN, Nat.zero_add])) $$ [Hc HO Hat]
  · isplitr; · iexact HI
    isplitl [Hc]; · iexact Hc
    isplitl [HO]; · iexact HO
    isplitr
    · iapply (mayWait c (osem k₀) n hlev); iapply (records_lev m Kb Kd); iexact HR
    iexact Hat
  iintro ⟨HO, Hat, -, Hpay⟩
  iapply Hk
  isplitl [HO]; · iexists _; iexact HO
  isplitl [Hat]; · iexact Hat
  iapply (Entails.of_eq (rest_dma m c k₀)); iexact Hpay

/-- A copy to another device: `r`'s cell `k₂` is paid, payment `n`; the own cell `k₁` will say when the source is free. -/
theorem wp_dsend (n : ℕ) (hn : n < 45) (k₁ k₂ : Fin 4 × Fin 15) (r : Dev nD) (hcell : pcell c n = dCell r k₂)
    (N : ℕ) (hN₀ : pamt n = N) (hN₁ : dmaAmt k₁ = N) (hN₂ : dmaAmt k₂ = N)
    {r' : Dev nD} (hr : r' = r) {sp sp' : Space} {s : Shape} {e : EltTy}
    {src : Memref sig (c : Thread nD τ).2.kind sp s e} {dst : Memref sig (Dev.tc r' : Thread nD τ).2.kind sp' s e}
    {hsc : dst.view.ref.isScScratch = false} {sS sR : SemLoc sig} (hsS : sS = osem k₁) (hsR : sR = osem k₂)
    {hsrc : src.view.WordExact} {hdst : dst.view.WordExact} {hsem : DmaTarget.Typed sp sR (.remote (Dev.tc r' : Thread nD τ) dst sS hsc)}
    (hN : dst.view.amount sR = N) {q : PosShare TreeShare}
    {fs : Buf (Elt F) (src.view.loc (c : Thread nD τ))} {fd : Buf (Elt F) (dst.view.loc (Dev.tc r' : Thread nD τ))}
    (hpay₁ : (src.view.loc (c : Thread nD τ) ↦[src.view.set]{q} fs) ⊢ dmaPay m c k₁)
    (hpay₂ : (dst.view.loc (Dev.tc r' : Thread nD τ) ↦[dst.view.set]{fullShare} (dst.view.write (Elt F) fd (src.view.read (Elt F) fs) Finset.univ)) ⊢ dmaPay m r k₂)
    {α : Type} {Q : α → sProp 𝕄} {k : PUnit → Prog (TpuEff nD τ sig (Elt F) Λ₀ .tc) α} :
    iprop(records m Kb Kd ∗ ow (F := F) c n ∗ (src.view.loc (c : Thread nD τ) ↦[src.view.set]{q} fs)
        ∗ (dst.view.loc (Dev.tc r' : Thread nD τ) ↦[dst.view.set]{fullShare} fd)
        ∗ dutyTok ER (dCell c k₁) 0 (0 : Fin 15) ∗ dutyTok ER (dCell r k₂) 0 (0 : Fin 15))
      ⊢ iprop(((ow (F := F) c (n + 1) ∗ cred (tallyAt (dCell c k₁) () N))
            -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma src (.remote (Dev.tc r' : Thread nD τ) dst sS hsc) sR hsrc hdst hsem) k) Q) := by
  subst hr hsS hsR
  iintro ⟨#HR, HO, Hs, Hd, Ht1, Ht2⟩ Hk
  unfold ow; icases HO with ⟨%W, HO⟩
  ihave HI := (records_dma m Kb Kd c k₁) $$ HR
  icases HI with ⟨#HI1, #Hr1⟩
  ihave HI := (records_dma m Kb Kd r' k₂) $$ HR
  icases HI with ⟨#HI2, #Hr2⟩
  iapply (Rounds.wp_send_pointsTo 𝒱₀ ER (Rd m) (c : Thread nD τ) none (κ₁ := Kd (c, k₁)) (κ₂ := Kd (r', k₂))
    (r₁ := 0) (r₂ := 0) (d₁ := 0) (d₂ := 0) (fd := fd)
    (by rw [duties_dma]; exact Finset.mem_singleton_self _) (by rw [duties_dma]; exact Finset.mem_singleton_self _)
    () () N hN ((amount_dma m c k₁ 0).trans hN₁) ((amount_dma m r' k₂ 0).trans hN₂) (O₀ := owed c n) (owed c (n + 1))
    (by rw [owed_step c n hn, hcell, hN₀]) (W := W)
    (by rw [payload_dma]; exact hpay₁) (by rw [payload_dma]; exact hpay₂)) $$ [HO Hs Hd Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [HO]; · iexists W; iexact HO
  iexact Hc

/-! ## The steps over the bundle -/

section Bundle
variable {α : Type} {Q : α → sProp (MT nD τ sig Unit (Elt F) ℕ UU ℕ)} {k : PUnit → Prog (TpuEff nD τ sig (Elt F) Λ₀ .tc) α}
variable {n cp cs cr wp ws wr : ℕ}

abbrev WP {α : Type} (p : Prog (TpuEff nD τ sig (Elt F) Λ₀ .tc) α) (Q : α → sProp (MT nD τ sig Unit (Elt F) ℕ UU ℕ)) :
    sProp (MT nD τ sig Unit (Elt F) ℕ UU ℕ) :=
  Idealize.SL.Sem.wp frame (wpE (defs₀ (F := F)) 𝒱₀ (c : Thread nD τ) none) Set.univ p Q

theorem pcell_c (j : ℕ) (hj : j < 15) : pcell c (15 + j) = dCell (rot c (j + 1)) (3, ⟨j, hj⟩) := by
  unfold pcell prot psem
  simp only [show ¬ 15 + j < 15 by omega, show 15 + j < 30 by omega, if_false, if_true, Nat.add_sub_cancel_left, Nat.mod_eq_of_lt hj]
theorem pcell_w (j : ℕ) (hj : j < 15) : pcell c (30 + j) = dCell (wdst c (pslot j)) (1, pslot j) := by
  unfold pcell prot psem wdst
  simp only [show ¬ 30 + j < 15 by omega, show ¬ 30 + j < 30 by omega, if_false, Nat.add_sub_cancel_left]
theorem pamt_c (j : ℕ) (hj : j < 15) : pamt (15 + j) = Nc := by
  unfold pamt; rw [if_neg (by omega), if_pos (by omega)]
theorem pamt_w (j : ℕ) : pamt (30 + j) = Nw := by
  unfold pamt; rw [if_neg (by omega), if_neg (by omega)]

theorem dmaAmt_w (a : Fin 4) (ha : a.val < 2) (i : Fin 15) : dmaAmt (a, i) = Nw := if_pos ha
theorem dmaAmt_c (a : Fin 4) (ha : ¬ a.val < 2) (i : Fin 15) : dmaAmt (a, i) = Nc := if_neg ha

theorem dmaPay_0 (i : Fin 15) : dmaPay m c (0, i) = wPts c (wsrc c i) (qS i) (wAll m) := if_pos rfl
theorem dmaPay_1 (i : Fin 15) : dmaPay m c (1, i) = wPts c (wrow c i) fullShare (wAll m) := rfl
theorem dmaPay_2 (i : Fin 15) : dmaPay m c (2, i) = cPts c c (Transfers.shareTokN fullShare i.val) (cAll m) := rfl
theorem dmaPay_3 (i : Fin 15) : dmaPay m c (3, i) = cPts c (rot c (15 - i.val)) fullShare (cAll m) := rfl

theorem amount_c (s : Dev nD) (k : Fin 4 × Fin 15) : (cRow s).view.amount (osem k) = Nc := rfl
theorem amount_w (s : Dev nD) (k : Fin 4 × Fin 15) : (wRow s).view.amount (osem k) = Nw := rfl

theorem cPay_land (j : ℕ) (hj : j < 15) (f : S16x8x128.Idx → Elt F .i32) :
    ((cRow c).view.loc (rot c (j + 1) : Thread nD τ) ↦[(cRow c).view.set]{fullShare}
        ((cRow c).view.write (Elt F) f ((cRow c).view.read (Elt F) (cAll m)) Finset.univ))
      ⊢ dmaPay m (rot c (j + 1)) (3, ⟨j, hj⟩) := by
  rw [dmaPay_3, rot_rot, show rot c (j + 1 + (15 - (⟨j, hj⟩ : Fin 15).val)) = c from rot_full c (by simp only; omega)]
  unfold cPts
  exact Entails.of_eq (pointsTo_congr (cLand m c f))
theorem wPay_land (i : Fin 15) (f : S16x4x256x512.Idx → Elt F .bf16) :
    ((wRow (wsrc c i)).view.loc (wdst c i : Thread nD τ) ↦[(wRow (wsrc c i)).view.set]{fullShare}
        ((wRow (wsrc c i)).view.write (Elt F) f ((wRow (wsrc c i)).view.read (Elt F) (wAll m)) Finset.univ))
      ⊢ dmaPay m (wdst c i) (1, i) := by
  rw [dmaPay_1, wrow_wdst]
  unfold wPts
  exact Entails.of_eq (pointsTo_congr (wLand m _ f))

theorem wp_csend0 (j : ℕ) (hj : j < 15)  (f : S16x8x128.Idx → Elt F .i32)
    {hsc : (cRow c).view.ref.isScScratch = false}
    {hsrc : (cRow c).view.WordExact} {hdst : (cRow c).view.WordExact} {hsem : DmaTarget.Typed .vmem (osem (3, ⟨j, hj⟩)) (.remote (Dev.tc (rot c (j + 1)) : Thread nD τ) (cRow c) (osem (2, ⟨j, hj⟩)) hsc)} :
    iprop(records m Kb Kd ∗ ow (F := F) c (15 + j) ∗ ((cRow c).view.loc (c : Thread nD τ) ↦[(cRow c).view.set]{Transfers.shareTokN fullShare j} (cAll m))
        ∗ ((cRow c).view.loc (Dev.tc (rot c (j + 1)) : Thread nD τ) ↦[(cRow c).view.set]{fullShare} f)
        ∗ dutyTok ER (dCell c (2, ⟨j, hj⟩)) 0 (0 : Fin 15) ∗ dutyTok ER (dCell (rot c (j + 1)) (3, ⟨j, hj⟩)) 0 (0 : Fin 15))
      ⊢ iprop(((ow (F := F) c (15 + j + 1) ∗ cred (tallyAt (dCell c (2, ⟨j, hj⟩)) () Nc))
            -∗ WP c (k ⟨⟩) Q)
          -∗ WP c (.op (.enqueueDma (cRow c) (.remote (Dev.tc (rot c (j + 1)) : Thread nD τ) (cRow c) (osem (2, ⟨j, hj⟩)) hsc) (osem (3, ⟨j, hj⟩)) hsrc hdst hsem) k) Q) := by
  have h1 := Entails.of_eq (dmaPay_2 m c ⟨j, hj⟩).symm
  unfold cPts at h1
  exact (wp_dsend m Kb Kd c (15 + j) (by omega) (2, ⟨j, hj⟩) (3, ⟨j, hj⟩) (rot c (j + 1)) (pcell_c c j hj) Nc (pamt_c j hj) (dmaAmt_c 2 (by decide) _) (dmaAmt_c 3 (by decide) _) (r' := rot c (j + 1)) rfl
    (src := cRow c) (dst := cRow c) (sS := osem (2, ⟨j, hj⟩)) (sR := osem (3, ⟨j, hj⟩)) rfl rfl (amount_c c _) (q := Transfers.shareTokN fullShare j) (fs := cAll m) (fd := f) h1
    (cPay_land m c j hj f))
theorem wp_wsend0 (j : ℕ) (hj : j < 15)  (f : S16x4x256x512.Idx → Elt F .bf16)
    {hsc : (wRow (wsrc c (pslot j))).view.ref.isScScratch = false}
    {hsrc : (wRow (wsrc c (pslot j))).view.WordExact} {hdst : (wRow (wsrc c (pslot j))).view.WordExact} {hsem : DmaTarget.Typed .vmem (osem (1, pslot j)) (.remote (Dev.tc (wdst c (pslot j)) : Thread nD τ) (wRow (wsrc c (pslot j))) (osem (0, pslot j)) hsc)} :
    iprop(records m Kb Kd ∗ ow (F := F) c (30 + j) ∗ ((wRow (wsrc c (pslot j))).view.loc (c : Thread nD τ) ↦[(wRow (wsrc c (pslot j))).view.set]{qS (pslot j)} (wAll m))
        ∗ ((wRow (wsrc c (pslot j))).view.loc (Dev.tc (wdst c (pslot j)) : Thread nD τ) ↦[(wRow (wsrc c (pslot j))).view.set]{fullShare} f)
        ∗ dutyTok ER (dCell c (0, pslot j)) 0 (0 : Fin 15) ∗ dutyTok ER (dCell (wdst c (pslot j)) (1, pslot j)) 0 (0 : Fin 15))
      ⊢ iprop(((ow (F := F) c (30 + j + 1) ∗ cred (tallyAt (dCell c (0, pslot j)) () Nw))
            -∗ WP c (k ⟨⟩) Q)
          -∗ WP c (.op (.enqueueDma (wRow (wsrc c (pslot j))) (.remote (Dev.tc (wdst c (pslot j)) : Thread nD τ) (wRow (wsrc c (pslot j))) (osem (0, pslot j)) hsc) (osem (1, pslot j)) hsrc hdst hsem) k) Q) := by
  have h1 := Entails.of_eq (dmaPay_0 m c (pslot j)).symm
  unfold wPts at h1
  exact (wp_dsend m Kb Kd c (30 + j) (by omega) (0, pslot j) (1, pslot j) (wdst c (pslot j)) (pcell_w c j hj) Nw (pamt_w j) (dmaAmt_w 0 (by decide) _) (dmaAmt_w 1 (by decide) _) (r' := wdst c (pslot j)) rfl
    (src := wRow (wsrc c (pslot j))) (dst := wRow (wsrc c (pslot j))) (sS := osem (0, pslot j)) (sR := osem (1, pslot j)) rfl rfl (amount_w _ _) (q := qS (pslot j)) (fs := wAll m) (fd := f) h1
    (wPay_land m c (pslot j) f))
theorem wp_csend (j : ℕ) (hj : j < 15) (hcs : cs ≤ j) {r' : Dev nD} (hr : r' = rot c (j + 1))
    {src dst : Memref sig .tc .vmem S8x128 .i32} (hs : src = cRow c) (hd : dst = cRow c)
    {hsc : dst.view.ref.isScScratch = false} {sS sR : SemLoc sig} (hsS : sS = osem (2, ⟨j, hj⟩)) (hsR : sR = osem (3, ⟨j, hj⟩))
    {hsrc : src.view.WordExact} {hdst : dst.view.WordExact} {hsem : DmaTarget.Typed .vmem sR (.remote (Dev.tc r' : Thread nD τ) dst sS hsc)} :
    iprop(St m Kb Kd c (15 + j) j cs cr wp ws wr)
      ⊢ iprop((St m Kb Kd c (15 + j + 1) (j + 1) cs cr wp ws wr -∗ WP c (k ⟨⟩) Q)
          -∗ WP c (.op (.enqueueDma src (.remote (Dev.tc r' : Thread nD τ) dst sS hsc) sR hsrc hdst hsem) k) Q) := by
  subst hs hd hr hsS hsR
  unfold St
  iintro ⟨#HR, HO, HC, HCr, HD, HW, HWr, HQ, HE⟩ Hk
  ihave HC' := (Ph_fst hj hcs) $$ HC
  icases HC' with ⟨HA, HC⟩
  unfold CsA; icases HA with ⟨Ht1, Ht2, ⟨%f, Hd⟩, Hs, Hat⟩
  unfold cPts
  iapply (wp_csend0 m Kb Kd c j hj f) $$ [HO Ht1 Ht2 Hd Hs]
  · isplitr; · iexact HR
    isplitl [HO]; · iexact HO
    isplitl [Hs]; · iexact Hs
    isplitl [Hd]; · iexact Hd
    isplitl [Ht1]; · iexact Ht1
    iexact Ht2
  iintro ⟨HO, Hc⟩
  iapply Hk
  isplitr; · iexact HR
  isplitl [HO]; · iexact HO
  isplitl [HC Hc Hat]
  · iapply HC; unfold CsB; isplitl [Hc] <;> iassumption
  isplitl [HCr]; · iexact HCr
  isplitl [HD]; · iexact HD
  isplitl [HW]; · iexact HW
  isplitl [HWr]; · iexact HWr
  isplitl [HQ]; · iexact HQ
  iexact HE

theorem wp_wsend (j : ℕ) (hj : j < 15) (hws : ws ≤ j) (hwr : j < wr + 2) {r' : Dev nD} (hr : r' = wdst c (pslot j))
    {src dst : Memref sig .tc .vmem S4x256x512 .bf16} (hs : src = wRow (wsrc c (pslot j))) (hd : dst = wRow (wsrc c (pslot j)))
    {hsc : dst.view.ref.isScScratch = false} {sS sR : SemLoc sig} (hsS : sS = osem (0, pslot j)) (hsR : sR = osem (1, pslot j))
    {hsrc : src.view.WordExact} {hdst : dst.view.WordExact} {hsem : DmaTarget.Typed .vmem sR (.remote (Dev.tc r' : Thread nD τ) dst sS hsc)} :
    iprop(St m Kb Kd c (30 + j) cp cs cr j ws wr)
      ⊢ iprop((St m Kb Kd c (30 + j + 1) cp cs cr (j + 1) ws wr -∗ WP c (k ⟨⟩) Q)
          -∗ WP c (.op (.enqueueDma src (.remote (Dev.tc r' : Thread nD τ) dst sS hsc) sR hsrc hdst hsem) k) Q) := by
  subst hs hd hr hsS hsR
  unfold St
  iintro ⟨#HR, HO, HC, HCr, HD, HW, HWr, HQ, HE⟩ Hk
  ihave HW' := (Ph_fst hj hws) $$ HW
  icases HW' with ⟨HA, HW⟩
  ihave HQ' := (Ph_snd (N := 17) (s := j) (by omega) hwr) $$ HQ
  icases HQ' with ⟨Hs, HQ⟩
  unfold WsA; icases HA with ⟨Ht1, Ht2, ⟨%f, Hd⟩, Hat⟩
  ihave Hs := (Entails.of_eq (WqB_eq m c ⟨j, hj⟩)) $$ Hs
  unfold wPts
  iapply (wp_wsend0 m Kb Kd c j hj f) $$ [HO Ht1 Ht2 Hd Hs]
  · isplitr; · iexact HR
    isplitl [HO]; · iexact HO
    isplitl [Hs]; · iexact Hs
    isplitl [Hd]; · iexact Hd
    isplitl [Ht1]; · iexact Ht1
    iexact Ht2
  iintro ⟨HO, Hc⟩
  iapply Hk
  isplitr; · iexact HR
  isplitl [HO]; · iexact HO
  isplitl [HC]; · iexact HC
  isplitl [HCr]; · iexact HCr
  isplitl [HD]; · iexact HD
  isplitl [HW Hc Hat]
  · iapply HW; unfold WsB; isplitl [Hc] <;> iassumption
  isplitl [HWr]; · iexact HWr
  isplitl [HQ]; · iapply HQ; iempintro
  iexact HE

section Waits
variable {sp sp' : Space} {s s' : Shape} {e e' : EltTy} {sm : DmaSem sig}
  {src : Memref sig .tc sp' s' e'} {dst : Memref sig .tc sp s e} {hsrc : src.view.WordExact} {hdst : dst.view.WordExact}

theorem wp_crecv (j : ℕ) (hj : j < 15) (hlev : ∀ k : Fin 45, n ≤ k.val → slv (osem (3, ⟨j, hj⟩)) < plv k.val)
    (hsm : sm = dsem (3, ⟨j, hj⟩)) (hN : dst.view.dmaCredit = Nc) :
    iprop(St m Kb Kd c n cp cs j wp ws wr)
      ⊢ iprop((St m Kb Kd c n cp cs (j + 1) wp ws wr -∗ WP c (k ⟨⟩) Q) -∗ WP c (.op (.waitDma2 sm src dst hsrc hdst) k) Q) := by
  unfold St
  iintro ⟨#HR, HO, HC, HCr, HD, HW, HWr, HQ, HE⟩ Hk
  ihave HCr' := (Ph_snd hj hj) $$ HCr
  icases HCr' with ⟨HA, HCr⟩
  unfold CrB; icases HA with ⟨Hc, Hat⟩
  iapply (wp_dwait m Kb Kd c (3, ⟨j, hj⟩) n hlev hsm hN) $$ [HO Hc Hat]
  · isplitr; · iexact HR
    isplitl [HO]; · iexact HO
    isplitl [Hc]; · iexact Hc
    iexact Hat
  iintro ⟨HO, Hat, Hp⟩
  iapply Hk
  isplitr; · iexact HR
  isplitl [HO]; · iexact HO
  isplitl [HC]; · iexact HC
  isplitl [HCr Hp Hat]
  · iapply HCr; unfold CrC
    isplitl [Hp]; · iapply (Entails.of_eq (dmaPay_3 m c ⟨j, hj⟩)); iexact Hp
    iexact Hat
  isplitl [HD]; · iexact HD
  isplitl [HW]; · iexact HW
  isplitl [HWr]; · iexact HWr
  isplitl [HQ]; · iexact HQ
  iexact HE

theorem wp_cswait (j : ℕ) (hj : j < 15) (hcp : j < cp) (hlev : ∀ k : Fin 45, n ≤ k.val → slv (osem (2, ⟨j, hj⟩)) < plv k.val)
    (hsm : sm = dsem (2, ⟨j, hj⟩)) (hN : dst.view.dmaCredit = Nc) :
    iprop(St m Kb Kd c n cp j cr wp ws wr)
      ⊢ iprop((St m Kb Kd c n cp (j + 1) cr wp ws wr -∗ WP c (k ⟨⟩) Q) -∗ WP c (.op (.waitDma2 sm src dst hsrc hdst) k) Q) := by
  unfold St
  iintro ⟨#HR, HO, HC, HCr, HD, HW, HWr, HQ, HE⟩ Hk
  ihave HC' := (Ph_snd hj hcp) $$ HC
  icases HC' with ⟨HA, HC⟩
  unfold CsB; icases HA with ⟨Hc, Hat⟩
  iapply (wp_dwait m Kb Kd c (2, ⟨j, hj⟩) n hlev hsm hN) $$ [HO Hc Hat]
  · isplitr; · iexact HR
    isplitl [HO]; · iexact HO
    isplitl [Hc]; · iexact Hc
    iexact Hat
  iintro ⟨HO, Hat, Hp⟩
  iapply Hk
  isplitr; · iexact HR
  isplitl [HO]; · iexact HO
  isplitl [HC Hp Hat]
  · iapply HC; unfold CsC
    isplitl [Hp]; · iapply (Entails.of_eq (dmaPay_2 m c ⟨j, hj⟩)); iexact Hp
    iexact Hat
  isplitl [HCr]; · iexact HCr
  isplitl [HD]; · iexact HD
  isplitl [HW]; · iexact HW
  isplitl [HWr]; · iexact HWr
  isplitl [HQ]; · iexact HQ
  iexact HE

theorem wp_wswait (j : ℕ) (hj : j < 15) (hwp : j < wp) (hlev : ∀ k : Fin 45, n ≤ k.val → slv (osem (0, pslot j)) < plv k.val)
    (hsm : sm = dsem (0, pslot j)) (hN : dst.view.dmaCredit = Nw) :
    iprop(St m Kb Kd c n cp cs cr wp j wr)
      ⊢ iprop((St m Kb Kd c n cp cs cr wp (j + 1) wr -∗ WP c (k ⟨⟩) Q) -∗ WP c (.op (.waitDma2 sm src dst hsrc hdst) k) Q) := by
  unfold St
  iintro ⟨#HR, HO, HC, HCr, HD, HW, HWr, HQ, HE⟩ Hk
  ihave HW' := (Ph_snd hj hwp) $$ HW
  icases HW' with ⟨HA, HW⟩
  unfold WsB; icases HA with ⟨Hc, Hat⟩
  iapply (wp_dwait m Kb Kd c (0, pslot j) n hlev hsm hN) $$ [HO Hc Hat]
  · isplitr; · iexact HR
    isplitl [HO]; · iexact HO
    isplitl [Hc]; · iexact Hc
    iexact Hat
  iintro ⟨HO, Hat, Hp⟩
  iapply Hk
  isplitr; · iexact HR
  isplitl [HO]; · iexact HO
  isplitl [HC]; · iexact HC
  isplitl [HCr]; · iexact HCr
  isplitl [HD]; · iexact HD
  isplitl [HW Hp Hat]
  · iapply HW; unfold WsC
    isplitl [Hp]; · iapply (Entails.of_eq (dmaPay_0 m c (pslot j))); iexact Hp
    iexact Hat
  isplitl [HWr]; · iexact HWr
  isplitl [HQ]; · iexact HQ
  iexact HE

theorem wp_wrecv (j : ℕ) (hj : j < 15) (hwp : wp ≤ j + 2) (hlev : ∀ k : Fin 45, n ≤ k.val → slv (osem (1, pslot j)) < plv k.val)
    (hsm : sm = dsem (1, pslot j)) (hN : dst.view.dmaCredit = Nw) :
    iprop(St m Kb Kd c n cp cs cr wp ws j)
      ⊢ iprop((St m Kb Kd c n cp cs cr wp ws (j + 1) -∗ WP c (k ⟨⟩) Q) -∗ WP c (.op (.waitDma2 sm src dst hsrc hdst) k) Q) := by
  unfold St
  iintro ⟨#HR, HO, HC, HCr, HD, HW, HWr, HQ, HE⟩ Hk
  ihave HWr' := (Ph_snd hj hj) $$ HWr
  icases HWr' with ⟨HA, HWr⟩
  ihave HQ' := (Ph_fst (N := 17) (p := j + 2) (by omega) hwp) $$ HQ
  icases HQ' with ⟨-, HQ⟩
  unfold WrB; icases HA with ⟨Hc, Hat⟩
  iapply (wp_dwait m Kb Kd c (1, pslot j) n hlev hsm hN) $$ [HO Hc Hat]
  · isplitr; · iexact HR
    isplitl [HO]; · iexact HO
    isplitl [Hc]; · iexact Hc
    iexact Hat
  iintro ⟨HO, Hat, Hp⟩
  ihave Hp' := (show dmaPay m c (1, pslot j) ⊢ iprop(wPts c (wrow c (pslot j)) fullShare.left (wAll m) ∗ wPts c (wrow c (pslot j)) fullShare.right (wAll m)) from
    (pointsTo_share (PosShare.mem_left_op_right fullShare)).1) $$ Hp
  icases Hp' with ⟨Hl, Hr⟩
  iapply Hk
  isplitr; · iexact HR
  isplitl [HO]; · iexact HO
  isplitl [HC]; · iexact HC
  isplitl [HCr]; · iexact HCr
  isplitl [HD]; · iexact HD
  isplitl [HW]; · iexact HW
  isplitl [HWr Hr Hat]
  · iapply HWr; unfold WrC; isplitl [Hr] <;> iassumption
  isplitl [HQ Hl]
  · iapply HQ; unfold WqB; iapply (Entails.of_eq (if_neg (show ¬ j + 2 = 0 by omega)).symm); iapply (Entails.of_eq (if_neg (show ¬ j + 2 = 1 by omega)).symm); iexact Hl
  iexact HE

end Waits
end Bundle

/-! ## Loads of the tables -/

theorem cLoad (s : Dev nD) : (cM.access (cRect s)).read (Elt F) (cAll m) = k0_pay6 (k0_pay3 (rstg m s)) := by
  have h : ∀ x, cAll m ((cM.access (cRect s)).emb x) = (cM.access (cRect s)).write (Elt F)
      (m (((0 : Dev nD) : Thread nD τ).loc cc0_scratch1)) (k0_pay6 (k0_pay3 (rstg m s))) Finset.univ ((cM.access (cRect s)).emb x) := by
    intro x
    have hs : ((cM.access (cRect s)).emb x) 0 = s := Fin.ext (by
      rw [← mem_cRow, cRow_set]; exact View.emb_mem_set _ x)
    unfold cAll; rw [hs]
  funext x
  rw [View.read_apply, h x, ← View.read_apply, View.read_write_univ]

theorem wLoad (s : Dev nD) : (wM.access (wRect s)).read (Elt F) (wAll m) = k0_pay5 (estg m s) := by
  have h : ∀ x, wAll m ((wM.access (wRect s)).emb x) = (wM.access (wRect s)).write (Elt F)
      (m (((0 : Dev nD) : Thread nD τ).loc cc0_scratch0)) (k0_pay5 (estg m s)) Finset.univ ((wM.access (wRect s)).emb x) := by
    intro x
    have hs : ((wM.access (wRect s)).emb x) 0 = s := Fin.ext (by
      rw [← mem_wRow, wRow_set]; exact View.emb_mem_set _ x)
    unfold wAll; rw [hs]
  funext x
  rw [View.read_apply, h x, ← View.read_apply, View.read_write_univ]

/-- A device's own row once it has stored it. -/
theorem cStore (s : Dev nD) (f : S16x8x128.Idx → Elt F .i32) : ∀ i ∈ (cRow s).view.set,
    (cM.access (cRect s)).write (Elt F) f (k0_pay6 (k0_pay3 (rstg m s))) Finset.univ i = cAll m i := by
  intro i hi
  rw [cRow_set] at hi
  rw [← cLoad, View.write_read_eq_piecewise, View.setOn_univ]
  exact Finset.piecewise_eq_of_mem _ _ _ hi
theorem wStore (s : Dev nD) (f : S16x4x256x512.Idx → Elt F .bf16) : ∀ i ∈ (wRow s).view.set,
    (wM.access (wRect s)).write (Elt F) f (k0_pay5 (estg m s)) Finset.univ i = wAll m i := by
  intro i hi
  rw [wRow_set] at hi
  rw [← wLoad, View.write_read_eq_piecewise, View.setOn_univ]
  exact Finset.piecewise_eq_of_mem _ _ _ hi

theorem eInb (s : Dev nD) (k : Fin 4) : ∀ a, (![s.val, k.val, 0, 0] : Fin 4 → ℕ) a + S1x1x256x512.size a ≤ S16x4x256x512.size a := by
  revert s k; decide +kernel
/-- Expert `k` of row `s`. -/
abbrev eRect (s : Dev nD) (k : Fin 4) : Rect S16x4x256x512 := Rect.unit (s := S16x4x256x512) ![s.val, k.val, 0, 0] S1x1x256x512.size (eInb s k)
def eLd (s : Dev nD) (k : Fin 4) : Vec F S1x1x256x512 .bf16 := (wM.access (eRect s k)).read (Elt F) (wAll m)

theorem eRect_sub (s : Dev nD) (k : Fin 4) : (wM.access (eRect s k)).set ⊆ (wRow s).view.set := by
  intro i hi
  rw [mem_wRow]
  rw [show (wM.access (eRect s k)).set = (eRect s k).set from View.set_slice_whole _ _, Rect.mem_set_unit] at hi
  have := hi 0
  simp [S1x1x256x512] at this
  omega

/-- What `j` of the four experts of row `s` add to the result: `v70` the tokens' experts, `keep` the kept tokens,
    `o` the row's number as the kernel computes it. -/
def accN (v70 : IVec S1024x1 32) (keep : IVec S1024x1 1) (o : BitVec 32) (s : Dev nD) (x : Vec F S1024x256 .bf16) (g : Vec F S1024x512 .f32) :
    ℕ → Vec F S1024x512 .f32
  | 0 => g
  | j + 1 => if h : j < 4 then k0_pay17 v70 keep o ⟨j, h⟩ (eLd m s ⟨j, h⟩) x (accN v70 keep o s x g j) else g

section Loops

theorem hz2 : (![0, 0] : Fin 2 → Nat) = fun _ => 0 := funext fun a => by fin_cases a <;> rfl

abbrev xPts : sProp (MT nD τ sig Unit (Elt F) ℕ UU ℕ) := (((c : Thread nD τ).loc cc0_stg0_0) ↦{fullShare} xstg m c)
abbrev oPts (g : Vec F S1024x512 .f32) : sProp (MT nD τ sig Unit (Elt F) ℕ UU ℕ) := (((c : Thread nD τ).loc cc0_stg3_0) ↦{fullShare} g)
abbrev xR : Rect S1024x256 := Rect.unit (s := S1024x256) ![0, 0] S1024x256.size inb_S1024x256_S1024x256_0_0
abbrev oR : Rect S1024x512 := Rect.unit (s := S1024x512) ![0, 0] S1024x512.size inb_S1024x512_S1024x512_0_0

/-- One trip of a loop over a row's experts. -/
theorem wp_trip (s : Dev nD) (e : Fin 4) (off : Fin 4 → ℕ) (hoff : off = ![s.val, e.val, 0, 0])
    (inb : ∀ a, off a + S1x1x256x512.size a ≤ S16x4x256x512.size a)
    {hl : wM.view.LoadsAt (Rect.unit (s := S16x4x256x512) off S1x1x256x512.size inb).toLoadRect}
    {hlx : xM.view.LoadsAt xR.toLoadRect} {hlo : oM.view.LoadsAt oR.toLoadRect}
    {hx : (oM.access oR).Stores Finset.univ} {hm : (Finset.univ : Finset oR.shape.Idx) = Finset.univ ∨ ∀ a, oR.stride a = 1}
    (pay : Vec F S1x1x256x512 .bf16 → Vec F S1024x256 .bf16 → Vec F S1024x512 .f32 → Vec F S1024x512 .f32)
    (q : PosShare TreeShare) (g : Vec F S1024x512 .f32) {Q : Unit → sProp (MT nD τ sig Unit (Elt F) ℕ UU ℕ)}
    (hQ : iprop(wPts c s q (wAll m) ∗ xPts m c ∗ oPts c (pay (eLd m s e) (xstg m c) g)) ⊢ Q ⟨⟩) :
    iprop(wPts c s q (wAll m) ∗ xPts m c ∗ oPts c g)
      ⊢ WP c (.op (.load wM (Rect.unit (s := S16x4x256x512) off S1x1x256x512.size inb).toLoadRect hl) fun w =>
          .op (.load xM xR.toLoadRect hlx) fun x => .op (.load oM oR.toLoadRect hlo) fun y => .op (.load oM oR.toLoadRect hlo) fun _ =>
            .op (.store oM oR (pay w x y) Finset.univ hx hm) fun _ => .ret ⟨⟩) Q := by
  subst hoff
  unfold wPts
  iintro ⟨Hw, Hx, Ho⟩
  iapply (wp_load_rect 𝒱₀ (c : Thread nD τ) none Set.univ (m := wM) (r := eRect s e) (eRect_sub s e)) $$ Hw; iintro Hw
  iapply (wp_load 𝒱₀ (c : Thread nD τ) none Set.univ (m := xM) (Finset.subset_univ _)) $$ Hx; iintro Hx
  rw [show xM.view.readAt (Elt F) xR.toLoadRect (xstg m c) = xstg m c from Memref.readAt_unit_zero (Elt F) cc0_stg0_0 hz2 _ _]
  iapply (wp_load 𝒱₀ (c : Thread nD τ) none Set.univ (m := oM) (Finset.subset_univ _)) $$ Ho; iintro Ho
  rw [show oM.view.readAt (Elt F) oR.toLoadRect g = g from Memref.readAt_unit_zero (Elt F) cc0_stg3_0 hz2 _ _]
  iapply (wp_load 𝒱₀ (c : Thread nD τ) none Set.univ (m := oM) (Finset.subset_univ _)) $$ Ho; iintro Ho
  iapply (wp_store 𝒱₀ (c : Thread nD τ) none Set.univ (m := oM) (r := oR) (Mk := Finset.univ) (Finset.subset_univ _)) $$ Ho; iintro Ho
  rw [show ∀ w : Vec F S1024x512 .f32, (oM.access oR).write (Elt F) g w Finset.univ = w from fun w => Memref.write_access_unit_zero_univ (Elt F) cc0_stg3_0 hz2 _ g w,
    wp_ret]
  imodintro
  iapply hQ
  unfold wPts eLd
  isplitl [Hw]; · iexact Hw
  isplitl [Hx]; · iexact Hx
  iexact Ho

/-- One of the sixteen loops over a row's four experts. -/
theorem wp_acc {lb ub st : BitVec 32} (hok : Scf.OK lb ub st) (hT : Scf.trips lb ub st = 4)
    (body : Fin (Scf.trips lb ub st) → Unit → Prog (TpuEff nD τ sig (Elt F) Λ₀ .tc) Unit)
    (off : Fin (Scf.trips lb ub st) → Fin 4 → ℕ) (inb : ∀ t a, off t a + S1x1x256x512.size a ≤ S16x4x256x512.size a)
    {hl : ∀ t, wM.view.LoadsAt (Rect.unit (s := S16x4x256x512) (off t) S1x1x256x512.size (inb t)).toLoadRect}
    {hlx : xM.view.LoadsAt xR.toLoadRect} {hlo : oM.view.LoadsAt oR.toLoadRect}
    {hx : (oM.access oR).Stores Finset.univ} {hm : (Finset.univ : Finset oR.shape.Idx) = Finset.univ ∨ ∀ a, oR.stride a = 1}
    (v70 : IVec S1024x1 32) (keep : IVec S1024x1 1) (o : BitVec 32) (s : Dev nD)
    (hoff : ∀ t, off t = ![s.val, t.val, 0, 0])
    (hb : ∀ t u, body t u = .op (.load wM (Rect.unit (s := S16x4x256x512) (off t) S1x1x256x512.size (inb t)).toLoadRect (hl t)) fun w =>
      .op (.load xM xR.toLoadRect hlx) fun x => .op (.load oM oR.toLoadRect hlo) fun y => .op (.load oM oR.toLoadRect hlo) fun _ =>
        .op (.store oM oR (k0_pay17 v70 keep o (Fin.cast hT t) w x y) Finset.univ hx hm) fun _ => .ret ⟨⟩)
    (q : PosShare TreeShare) (g : Vec F S1024x512 .f32) {β : Type} {kk : Unit → Prog (TpuEff nD τ sig (Elt F) Λ₀ .tc) β} {Q : β → sProp (MT nD τ sig Unit (Elt F) ℕ UU ℕ)} :
    iprop(wPts c s q (wAll m) ∗ xPts m c ∗ oPts c g)
      ⊢ iprop(((wPts c s q (wAll m) ∗ xPts m c ∗ oPts c (accN m v70 keep o s (xstg m c) g 4)) -∗ WP c (kk ⟨⟩) Q)
        -∗ WP c (Scf.for lb ub st hok ⟨⟩ body >>= kk) Q) := by
  have h := Scf.wp_for_bind frame (wpE (defs₀ (F := F)) 𝒱₀ (c : Thread nD τ) none) Set.univ lb ub st hok (⟨⟩ : Unit) body
    (fun j _ => iprop(wPts c s q (wAll m) ∗ xPts m c ∗ oPts c (accN m v70 keep o s (xstg m c) g j)))
    (fun t u => by
      rw [hb t u]
      have ht : t.val < 4 := hT ▸ t.isLt
      exact wp_trip m c s (Fin.cast hT t) (off t) (hoff t) (inb t) (k0_pay17 v70 keep o (Fin.cast hT t)) q _ (by
        show _ ⊢ iprop(wPts c s q (wAll m) ∗ xPts m c ∗ oPts c (accN m v70 keep o s (xstg m c) g (t.val + 1)))
        rw [accN, dif_pos ht]; exact .rfl)) (kk := kk) (Q := Q)
  rw [hT] at h
  iintro H Hk
  iapply h $$ [H]
  · iexact H
  iintro %u H
  iapply Hk; iexact H

variable {n cp cs cr wp ws wr : ℕ}

section Acc
variable {lb ub st : BitVec 32} (hok : Scf.OK lb ub st) (hT : Scf.trips lb ub st = 4)
    (body : Fin (Scf.trips lb ub st) → Unit → Prog (TpuEff nD τ sig (Elt F) Λ₀ .tc) Unit)
    (off : Fin (Scf.trips lb ub st) → Fin 4 → ℕ) (inb : ∀ t a, off t a + S1x1x256x512.size a ≤ S16x4x256x512.size a)
    {hl : ∀ t, wM.view.LoadsAt (Rect.unit (s := S16x4x256x512) (off t) S1x1x256x512.size (inb t)).toLoadRect}
    {hlx : xM.view.LoadsAt xR.toLoadRect} {hlo : oM.view.LoadsAt oR.toLoadRect}
    {hx : (oM.access oR).Stores Finset.univ} {hm : (Finset.univ : Finset oR.shape.Idx) = Finset.univ ∨ ∀ a, oR.stride a = 1}
    (v70 : IVec S1024x1 32) (keep : IVec S1024x1 1) (o : BitVec 32)
    (g : Vec F S1024x512 .f32) {β : Type} {kk : Unit → Prog (TpuEff nD τ sig (Elt F) Λ₀ .tc) β} {Q : β → sProp (MT nD τ sig Unit (Elt F) ℕ UU ℕ)}

/-- The loop over the device's own row. -/
theorem wp_own_acc (hoff : ∀ t, off t = ![c.val, t.val, 0, 0])
    (hb : ∀ t u, body t u = .op (.load wM (Rect.unit (s := S16x4x256x512) (off t) S1x1x256x512.size (inb t)).toLoadRect (hl t)) fun w =>
      .op (.load xM xR.toLoadRect hlx) fun x => .op (.load oM oR.toLoadRect hlo) fun y => .op (.load oM oR.toLoadRect hlo) fun _ =>
        .op (.store oM oR (k0_pay17 v70 keep o (Fin.cast hT t) w x y) Finset.univ hx hm) fun _ => .ret ⟨⟩) :
    iprop(St m Kb Kd c n cp cs cr wp ws wr ∗ xPts m c ∗ oPts c g)
      ⊢ iprop(((St m Kb Kd c n cp cs cr wp ws wr ∗ xPts m c ∗ oPts c (accN m v70 keep o c (xstg m c) g 4)) -∗ WP c (kk ⟨⟩) Q)
        -∗ WP c (Scf.for lb ub st hok ⟨⟩ body >>= kk) Q) := by
  unfold St
  iintro ⟨⟨#HR, HO, HC, HCr, HD, HW, HWr, HQ, HE⟩, Hx, Ho⟩ Hk
  iapply (wp_acc m c hok hT body off inb v70 keep o c hoff hb fullShare.right.right g) $$ [HE Hx Ho]
  · isplitl [HE]; · iexact HE
    isplitl [Hx] <;> iassumption
  iintro ⟨HE, Hx, Ho⟩
  iapply Hk
  isplitr [Hx Ho]
  · isplitr; · iexact HR
    isplitl [HO]; · iexact HO
    isplitl [HC]; · iexact HC
    isplitl [HCr]; · iexact HCr
    isplitl [HD]; · iexact HD
    isplitl [HW]; · iexact HW
    isplitl [HWr]; · iexact HWr
    isplitl [HQ]; · iexact HQ
    iexact HE
  isplitl [Hx] <;> iassumption

/-- The loop over the row of receipt `j`. -/
theorem wp_row_acc (j : Fin 15) (hj : j.val < wr) (hoff : ∀ t, off t = ![(wrow c (pslot j.val)).val, t.val, 0, 0])
    (hb : ∀ t u, body t u = .op (.load wM (Rect.unit (s := S16x4x256x512) (off t) S1x1x256x512.size (inb t)).toLoadRect (hl t)) fun w =>
      .op (.load xM xR.toLoadRect hlx) fun x => .op (.load oM oR.toLoadRect hlo) fun y => .op (.load oM oR.toLoadRect hlo) fun _ =>
        .op (.store oM oR (k0_pay17 v70 keep o (Fin.cast hT t) w x y) Finset.univ hx hm) fun _ => .ret ⟨⟩) :
    iprop(St m Kb Kd c n cp cs cr wp ws wr ∗ xPts m c ∗ oPts c g)
      ⊢ iprop(((St m Kb Kd c n cp cs cr wp ws wr ∗ xPts m c ∗ oPts c (accN m v70 keep o (wrow c (pslot j.val)) (xstg m c) g 4)) -∗ WP c (kk ⟨⟩) Q)
        -∗ WP c (Scf.for lb ub st hok ⟨⟩ body >>= kk) Q) := by
  unfold St
  iintro ⟨⟨#HR, HO, HC, HCr, HD, HW, HWr, HQ, HE⟩, Hx, Ho⟩ Hk
  ihave HWr' := (Ph_at j hj) $$ HWr
  icases HWr' with ⟨HA, HWr⟩
  unfold WrC
  icases HA with ⟨Hr, Hat⟩
  iapply (wp_acc m c hok hT body off inb v70 keep o (wrow c (pslot j.val)) hoff hb fullShare.right g) $$ [Hr Hx Ho]
  · isplitl [Hr]; · iexact Hr
    isplitl [Hx] <;> iassumption
  iintro ⟨Hr, Hx, Ho⟩
  iapply Hk
  isplitr [Hx Ho]
  · isplitr; · iexact HR
    isplitl [HO]; · iexact HO
    isplitl [HC]; · iexact HC
    isplitl [HCr]; · iexact HCr
    isplitl [HD]; · iexact HD
    isplitl [HW]; · iexact HW
    isplitl [HWr Hr Hat]
    · iapply HWr; isplitl [Hr] <;> iassumption
    isplitl [HQ]; · iexact HQ
    iexact HE
  isplitl [Hx] <;> iassumption

end Acc

/-- What a device reads of a count row. -/
def cnt (s : Dev nD) : Vec F S1x8x128 .i32 := k0_pay6 (k0_pay3 (rstg m s))

theorem crecv_surj : ∀ c s : Dev nD, s ≠ c → ∃ j : Fin 15, rot c (15 - j.val) = s := by decide +kernel

/-- The load of count row `s`, all rows being there. -/
theorem wp_cload (s : Dev nD) {off : Fin 3 → ℕ} {inb : ∀ a, off a + S1x8x128.size a ≤ S16x8x128.size a} (hoff : off = ![s.val, 0, 0])
    {hl : cM.view.LoadsAt (Rect.unit (s := S16x8x128) off S1x8x128.size inb).toLoadRect}
    {α : Type} {k : Vec F S1x8x128 .i32 → Prog (TpuEff nD τ sig (Elt F) Λ₀ .tc) α} {Q : α → sProp (MT nD τ sig Unit (Elt F) ℕ UU ℕ)} :
    iprop(St m Kb Kd c n cp cs 15 wp ws wr)
      ⊢ iprop((St m Kb Kd c n cp cs 15 wp ws wr -∗ WP c (k (cnt m s)) Q)
        -∗ WP c (.op (.load cM (Rect.unit (s := S16x8x128) off S1x8x128.size inb).toLoadRect hl) k) Q) := by
  subst hoff
  have hval : (cM.access (cRect s)).read (Elt F) (cAll m) = cnt m s := cLoad m s
  unfold St
  iintro ⟨#HR, HO, HC, HCr, HD, HW, HWr, HQ, HE⟩ Hk
  by_cases h : s = c
  · subst h
    unfold cPts
    iapply (wp_load_rect 𝒱₀ (s : Thread nD τ) none Set.univ (m := cM) (r := cRect s) (cRow_set s).symm.le) $$ HD; iintro HD
    rw [hval]
    iapply Hk
    isplitr; · iexact HR
    isplitl [HO]; · iexact HO
    isplitl [HC]; · iexact HC
    isplitl [HCr]; · iexact HCr
    isplitl [HD]; · iexact HD
    isplitl [HW]; · iexact HW
    isplitl [HWr]; · iexact HWr
    isplitl [HQ]; · iexact HQ
    iexact HE
  · obtain ⟨j, rfl⟩ := crecv_surj c s h
    ihave HCr' := (Ph_at j j.isLt) $$ HCr
    icases HCr' with ⟨HA, HCr⟩
    unfold CrC cPts
    icases HA with ⟨Hr, Hat⟩
    iapply (wp_load_rect 𝒱₀ (c : Thread nD τ) none Set.univ (m := cM) (r := cRect (rot c (15 - j.val))) (cRow_set _).symm.le) $$ Hr; iintro Hr
    rw [hval]
    iapply Hk
    isplitr; · iexact HR
    isplitl [HO]; · iexact HO
    isplitl [HC]; · iexact HC
    isplitl [HCr Hr Hat]
    · iapply HCr; isplitl [Hr] <;> iassumption
    isplitl [HD]; · iexact HD
    isplitl [HW]; · iexact HW
    isplitl [HWr]; · iexact HWr
    isplitl [HQ]; · iexact HQ
    iexact HE

end Loops

end Cert.Moe
-- ==== Proof.Walk.lean ====
module

public import proofs.«01_k».proof.Proof.Steps

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! # How the steps are chained

A step's lemma is used with whatever else is held framed away; the next goal is the rest of the program. -/

variable (m : (ℓ : Loc nD τ sig) → Buf (Elt F) ℓ) (Kb : Dev nD → ℕ) (Kd : Dev nD × (Fin 4 × Fin 15) → ℕ) (c : Dev nD)

theorem step {P P' R G H : sProp (MT nD τ sig Unit (Elt F) ℕ UU ℕ)} (h : P ⊢ iprop((P' -∗ G) -∗ H)) (hk : iprop(P' ∗ R) ⊢ G) :
    iprop(P ∗ R) ⊢ H := by
  iintro ⟨HP, HR⟩
  iapply h $$ HP
  iintro HP'
  iapply hk
  isplitl [HP'] <;> iassumption

/-- The same under one more resource, which the step does not use. -/
theorem step₂ {P X X' P' R G H : sProp (MT nD τ sig Unit (Elt F) ℕ UU ℕ)} (h : iprop(P ∗ X) ⊢ iprop((iprop(P' ∗ X') -∗ G) -∗ H))
    (hk : iprop(P' ∗ X' ∗ R) ⊢ G) : iprop(P ∗ X ∗ R) ⊢ H := by
  iintro ⟨HP, HX, HR⟩
  iapply h $$ [HP HX]
  · isplitl [HP] <;> iassumption
  iintro ⟨HP, HX⟩
  iapply hk
  isplitl [HP]; · iexact HP
  isplitl [HX] <;> iassumption

theorem endStep {α : Type} {P : sProp (MT nD τ sig Unit (Elt F) ℕ UU ℕ)} {Q : α → sProp (MT nD τ sig Unit (Elt F) ℕ UU ℕ)} {a : α}
    (h : P ⊢ Q a) : P ⊢ WP c (Prog.ret a) Q := by
  refine h.trans (.trans ?_ (Entails.of_eq (wp_ret _ _ _ _ _).symm))
  iintro H; imodintro; iexact H

theorem bindStep {α β : Type} {P : sProp (MT nD τ sig Unit (Elt F) ℕ UU ℕ)} {p : Prog (TpuEff nD τ sig (Elt F) Λ₀ .tc) α}
    {k : α → Prog (TpuEff nD τ sig (Elt F) Λ₀ .tc) β} {Q : β → sProp (MT nD τ sig Unit (Elt F) ℕ UU ℕ)}
    (h : P ⊢ WP c p fun a => WP c (k a) Q) : P ⊢ WP c (p >>= k) Q :=
  h.trans (Entails.of_eq (wp_bind _ _ _ _ _ _).symm)

/-! ## Words and rows -/

/-- A device's number as the kernel holds it. -/
abbrev wd (s : Dev nD) : BitVec 32 := BitVec.ofNat 32 s.val

theorem wRow_at {s : Dev nD} {off : Fin 4 → ℕ} {inb : ∀ a, off a + S1x4x256x512.size a ≤ S16x4x256x512.size a} (h : off = ![s.val, 0, 0, 0]) :
    (wM.slice (Rect.unit (s := S16x4x256x512) off S1x4x256x512.size inb) (fun _ => rfl)).squeeze S4x256x512 squeezes_S1x4x256x512_S4x256x512
      = wRow s := by
  subst h; rfl

theorem cRow_at {s : Dev nD} {off : Fin 3 → ℕ} {inb : ∀ a, off a + S1x8x128.size a ≤ S16x8x128.size a} (h : off = ![s.val, 0, 0]) :
    (cM.slice (Rect.unit (s := S16x8x128) off S1x8x128.size inb) (fun _ => rfl)).squeeze S8x128 squeezes_S1x8x128_S8x128
      = cRow s := by
  subst h; rfl

/-- The row sent with message `2 r + 2`, `2 r + 3`, and with the first two. -/
theorem off_fst (j : Fin 2) : k0_off4 c = ![(wsrc c (pslot j.val)).val, 0, 0, 0] :=
  (by decide +kernel : ∀ (c : Dev nD) (j : Fin 2), k0_off4 c = ![(wsrc c (pslot j.val)).val, 0, 0, 0]) c j
theorem off_even (r : Fin 7) : k0_off6 c (BitVec.ofNat 32 r.val) = ![(wsrc c (pslot (2 * r.val + 2))).val, 0, 0, 0] :=
  (by decide +kernel : ∀ (c : Dev nD) (r : Fin 7), k0_off6 c (BitVec.ofNat 32 r.val) = ![(wsrc c (pslot (2 * r.val + 2))).val, 0, 0, 0]) c r
theorem off_odd (r : Fin 6) : k0_off7 c (BitVec.ofNat 32 r.val) = ![(wsrc c (pslot (2 * r.val + 3))).val, 0, 0, 0] :=
  (by decide +kernel : ∀ (c : Dev nD) (r : Fin 6), k0_off7 c (BitVec.ofNat 32 r.val) = ![(wsrc c (pslot (2 * r.val + 3))).val, 0, 0, 0]) c r

/-- The row of receipt `2 r` and of receipt `2 r + 1`, as a number and as the kernel's word. -/
theorem row_even (r : Fin 8) : (c.val + (31 - r.val)) % 16 = (wrow c (pslot (2 * r.val))).val :=
  (by decide +kernel : ∀ (c : Dev nD) (r : Fin 8), (c.val + (31 - r.val)) % 16 = (wrow c (pslot (2 * r.val))).val) c r
theorem row_odd (r : Fin 7) : (c.val + (r.val + 1)) % 16 = (wrow c (pslot (2 * r.val + 1))).val :=
  (by decide +kernel : ∀ (c : Dev nD) (r : Fin 7), (c.val + (r.val + 1)) % 16 = (wrow c (pslot (2 * r.val + 1))).val) c r
theorem word_even (r : Fin 8) :
    Scalar.remsi (Scalar.addi (Scalar.subi (Scalar.subi (wd c) (BitVec.ofNat 32 r.val)) 1#32) 32#32) 16#32 = wd (wrow c (pslot (2 * r.val))) :=
  (by decide +kernel : ∀ (c : Dev nD) (r : Fin 8), Scalar.remsi (Scalar.addi (Scalar.subi (Scalar.subi (wd c) (BitVec.ofNat 32 r.val)) 1#32) 32#32) 16#32
    = wd (wrow c (pslot (2 * r.val)))) c r
theorem word_odd (r : Fin 7) :
    Scalar.remsi (Scalar.addi (Scalar.addi (wd c) (BitVec.ofNat 32 r.val)) 1#32) 16#32 = wd (wrow c (pslot (2 * r.val + 1))) :=
  (by decide +kernel : ∀ (c : Dev nD) (r : Fin 7), Scalar.remsi (Scalar.addi (Scalar.addi (wd c) (BitVec.ofNat 32 r.val)) 1#32) 16#32
    = wd (wrow c (pslot (2 * r.val + 1)))) c r

theorem loop_off {n a b : ℕ} {off : Fin n → Fin 4 → ℕ} (h : ∀ t, off t = ![a, t.val, 0, 0]) (hab : a = b) : ∀ t, off t = ![b, t.val, 0, 0] :=
  hab ▸ h

theorem out_eq {α : Type} {P : sProp (MT nD τ sig Unit (Elt F) ℕ UU ℕ)} {Q : α → sProp (MT nD τ sig Unit (Elt F) ℕ UU ℕ)} {a a' : α}
    (h : P ⊢ Q a) (ha : a' = a) : P ⊢ Q a' := ha ▸ h
theorem out_eq₂ {α β : Type} {P : sProp (MT nD τ sig Unit (Elt F) ℕ UU ℕ)} {Q : (Σ' _ : α, β) → sProp (MT nD τ sig Unit (Elt F) ℕ UU ℕ)} {a a' : α} {b b' : β}
    (h : P ⊢ Q ⟨a, b⟩) (ha : a' = a) (hb : b' = b) : P ⊢ Q ⟨a', b'⟩ := by subst ha hb; exact h

/-! ## The accumulator after the loops -/

/-- The output after the own row and the rows of the first `n` receipts. -/
def gN (v70 : IVec S1024x1 32) (keep : IVec S1024x1 1) : ℕ → Vec F S1024x512 .f32
  | 0 => accN m v70 keep (wd c) c (xstg m c) k0_pay15 4
  | n + 1 => accN m v70 keep (wd (wrow c (pslot n))) (wrow c (pslot n)) (xstg m c) (gN v70 keep n) 4

/-- The activations and the output, as the loops use them. -/
def XO (v70 : IVec S1024x1 32) (keep : IVec S1024x1 1) (n : ℕ) : sProp 𝕄 :=
  iprop(xPts m c ∗ oPts c (gN m c v70 keep n))

section Acc
variable {n cp cs cr wp ws wr : ℕ} {lb ub st : BitVec 32} {hok : Scf.OK lb ub st} {hT : Scf.trips lb ub st = 4}
    {body : Fin (Scf.trips lb ub st) → Unit → Prog (TpuEff nD τ sig (Elt F) Λ₀ .tc) Unit}
    {off : Fin (Scf.trips lb ub st) → Fin 4 → ℕ} {inb : ∀ t a, off t a + S1x1x256x512.size a ≤ S16x4x256x512.size a}
    {hl : ∀ t, wM.view.LoadsAt (Rect.unit (s := S16x4x256x512) (off t) S1x1x256x512.size (inb t)).toLoadRect}
    {hlx : xM.view.LoadsAt xR.toLoadRect} {hlo : oM.view.LoadsAt oR.toLoadRect}
    {hx : (oM.access oR).Stores Finset.univ} {hm : (Finset.univ : Finset oR.shape.Idx) = Finset.univ ∨ ∀ a, oR.stride a = 1}
    (v70 : IVec S1024x1 32) (keep : IVec S1024x1 1)
    {β : Type} {kk : Unit → Prog (TpuEff nD τ sig (Elt F) Λ₀ .tc) β} {Q : β → sProp (MT nD τ sig Unit (Elt F) ℕ UU ℕ)}

/-- The loop over the row of receipt `j`, on the accumulator. -/
theorem wp_acc_row (j : ℕ) (hj : j < 15) (hr : j < wr) (hoff : ∀ t, off t = ![(wrow c (pslot j)).val, t.val, 0, 0])
    (hb : ∀ t u, body t u = .op (.load wM (Rect.unit (s := S16x4x256x512) (off t) S1x1x256x512.size (inb t)).toLoadRect (hl t)) fun w =>
      .op (.load xM xR.toLoadRect hlx) fun x => .op (.load oM oR.toLoadRect hlo) fun y => .op (.load oM oR.toLoadRect hlo) fun _ =>
        .op (.store oM oR (k0_pay17 v70 keep (wd (wrow c (pslot j))) (Fin.cast hT t) w x y) Finset.univ hx hm) fun _ => .ret ⟨⟩) :
    iprop(St m Kb Kd c n cp cs cr wp ws wr ∗ XO m c v70 keep j)
      ⊢ iprop((iprop(St m Kb Kd c n cp cs cr wp ws wr ∗ XO m c v70 keep (j + 1)) -∗ WP c (kk ⟨⟩) Q)
        -∗ WP c (Scf.for lb ub st hok ⟨⟩ body >>= kk) Q) :=
  wp_row_acc m Kb Kd c hok hT body off inb v70 keep (wd (wrow c (pslot j))) (gN m c v70 keep j) ⟨j, hj⟩ hr hoff hb

end Acc
end Cert.Moe
-- ==== Proof.Tables.lean ====
module

public import proofs.«01_k».proof.Proof.Walk

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! # The two tables and who gets which row of them -/

section General
variable {M : Type} [URA M]

theorem bigSep_exchange {I J : Type} [DecidableEq I] (s : Finset I) (t : Finset J) (Φ : I → J → sProp M) :
    (bigSep s fun i => bigSep t fun j => Φ i j) = bigSep t fun j => bigSep s fun i => Φ i j := by
  induction s using Finset.induction_on with
  | empty => simp
  | insert i s hi ih =>
    rw [bigSep_insert hi, ih, ← bigSep_sep]
    exact bigSep_congr fun j _ => (bigSep_insert (Φ := fun i => Φ i j) hi).symm

/-- Grouping by a label that ranges over the whole type. -/
theorem bigSep_labels {I J : Type} [Fintype I] [DecidableEq I] [Fintype J] [DecidableEq J] (g : I → J) (Φ : I → sProp M) :
    bigSep Finset.univ (fun j => bigSep (Finset.univ.filter fun i => g i = j) Φ) = bigSep Finset.univ Φ := by
  rw [bigSep_congr fun j _ => bigSep_filter Finset.univ (fun i => g i = j) Φ, bigSep_exchange]
  refine bigSep_congr fun i _ => ?_
  rw [← bigSep_filter Finset.univ (fun j => g i = j) fun _ => Φ i, Finset.filter_eq, if_pos (Finset.mem_univ _), bigSep_singleton]

/-- One device apart, the others counted by `g`. -/
theorem bigSep_others {c : Dev nD} {g : Fin 15 → Dev nD} (hg : Function.Injective g) (hc : ∀ i, g i ≠ c) (Φ : Dev nD → sProp M) :
    bigSep Finset.univ Φ = iprop(Φ c ∗ bigSep Finset.univ fun i => Φ (g i)) := by
  have hi : Finset.univ.erase c = Finset.univ.map ⟨g, hg⟩ := by
    symm
    refine Finset.eq_of_subset_of_card_le (fun x hx => ?_) ?_
    · obtain ⟨i, -, rfl⟩ := Finset.mem_map.mp hx
      exact Finset.mem_erase.mpr ⟨hc i, Finset.mem_univ _⟩
    · rw [Finset.card_erase_of_mem (Finset.mem_univ c), Finset.card_map, Finset.card_univ, Finset.card_univ, Fintype.card_fin]
      decide
  rw [bigSep_univ_at Φ c, hi, BI.bigSep_map]; rfl

end General

variable (m : (ℓ : Loc nD τ sig) → Buf (Elt F) ℓ) (c : Dev nD)

theorem wrow_inj : ∀ c : Dev nD, Function.Injective (wrow c) := by decide +kernel
theorem wrow_ne : ∀ (c : Dev nD) (i : Fin 15), wrow c i ≠ c := by decide +kernel
theorem rot_inj : ∀ c : Dev nD, Function.Injective fun j : Fin 15 => rot c (j.val + 1) := by decide +kernel
theorem rot_ne : ∀ (c : Dev nD) (j : Fin 15), rot c (j.val + 1) ≠ c := by decide +kernel

/-- The order of the ring copies as a permutation of their slots. -/
def pslotEquiv : Fin 15 ≃ Fin 15 := Equiv.ofBijective (fun n => pslot n.val) (by decide +kernel)
/-- The other direction round. -/
def flip15 : Fin 15 ≃ Fin 15 := ⟨fun j => ⟨14 - j.val, by omega⟩, fun j => ⟨14 - j.val, by omega⟩,
  fun j => Fin.ext (by simp only; omega), fun j => Fin.ext (by simp only; omega)⟩

omit [FloatOps F] in
theorem w_whole (f : S16x4x256x512.Idx → Elt F .bf16) :
    ((((c : Thread nD τ).loc cc0_scratch0) ↦{fullShare} f) : sProp 𝕄) = bigSep Finset.univ fun s : Dev nD => wPts c s fullShare f := by
  unfold wPts
  refine Ring.pointsTo_blocks (ℓ := (c : Thread nD τ).loc cc0_scratch0) (fun s : Dev nD => (wRow s).view.set) (fun s s' h => ?_) ?_ f
  · rw [Finset.disjoint_left]; intro i hi hi'
    rw [mem_wRow] at hi hi'; exact h (Fin.ext (hi.symm.trans hi'))
  · ext i; simp only [Finset.mem_biUnion, Finset.mem_univ, true_and, iff_true]
    exact ⟨i 0, (mem_wRow _ i).mpr rfl⟩

omit [FloatOps F] in
theorem c_whole (f : S16x8x128.Idx → Elt F .i32) :
    ((((c : Thread nD τ).loc cc0_scratch1) ↦{fullShare} f) : sProp 𝕄) = bigSep Finset.univ fun s : Dev nD => cPts c s fullShare f := by
  unfold cPts
  refine Ring.pointsTo_blocks (ℓ := (c : Thread nD τ).loc cc0_scratch1) (fun s : Dev nD => (cRow s).view.set) (fun s s' h => ?_) ?_ f
  · rw [Finset.disjoint_left]; intro i hi hi'
    rw [mem_cRow] at hi hi'; exact h (Fin.ext (hi.symm.trans hi'))
  · ext i; simp only [Finset.mem_biUnion, Finset.mem_univ, true_and, iff_true]
    exact ⟨i 0, (mem_cRow _ i).mpr rfl⟩

omit [FloatOps F] in
theorem some_c (g : S16x8x128.Idx → Elt F .i32) : (bigSep Finset.univ fun j : Fin 15 => cPts (F := F) c (rot c (j.val + 1)) fullShare g)
    ⊢ (bigSep Finset.univ fun j : Fin 15 => iprop(∃ f, cPts (F := F) c (rot c (j.val + 1)) fullShare f) : sProp 𝕄) :=
  bigSep_mono fun j _ => by
    show iprop(cPts (F := F) c (rot c (j.val + 1)) fullShare g) ⊢ iprop(∃ f, cPts (F := F) c (rot c (j.val + 1)) fullShare f)
    iintro H; iexists g; iexact H
omit [FloatOps F] in
theorem some_w (f : S16x4x256x512.Idx → Elt F .bf16) : (bigSep Finset.univ fun i : Fin 15 => wPts (F := F) c (wrow c i) fullShare f)
    ⊢ (bigSep Finset.univ fun i : Fin 15 => iprop(∃ f, wPts (F := F) c (wrow c i) fullShare f) : sProp 𝕄) :=
  bigSep_mono fun i _ => by
    show iprop(wPts (F := F) c (wrow c i) fullShare f) ⊢ iprop(∃ f, wPts (F := F) c (wrow c i) fullShare f)
    iintro H; iexists f; iexact H

omit [FloatOps F] in
/-- Both tables whole, before the barrier: the own rows, and what each signal hands over. -/
theorem tables_out : iprop((∃ f, ((c : Thread nD τ).loc cc0_scratch0) ↦{fullShare} f) ∗ (∃ f, ((c : Thread nD τ).loc cc0_scratch1) ↦{fullShare} f))
    ⊢ (iprop((∃ f, wPts (F := F) c c fullShare f) ∗ (∃ f, cPts (F := F) c c fullShare f)
        ∗ bigSep Finset.univ fun j : Fin 15 => barPay (F := F) c j) : sProp 𝕄) := by
  iintro ⟨⟨%f, Hw⟩, ⟨%g, Hc⟩⟩
  ihave Hw := (Entails.of_eq ((w_whole c f).trans (bigSep_others (wrow_inj c) (wrow_ne c) _))) $$ Hw
  ihave Hc := (Entails.of_eq ((c_whole c g).trans (bigSep_others (rot_inj c) (rot_ne c) _))) $$ Hc
  icases Hw with ⟨Hw, Hws⟩
  icases Hc with ⟨Hc, Hcs⟩
  isplitl [Hw]; · iexists f; iexact Hw
  isplitl [Hc]; · iexists g; iexact Hc
  unfold barPay
  rw [bigSep_sep']
  isplitl [Hcs]
  · iapply (some_c c g)
    iexact Hcs
  rw [bigSep_labels via fun i : Fin 15 => iprop(∃ f, wPts (F := F) c (wrow c i) fullShare f)]
  iapply (some_w c f)
  iexact Hws

theorem via_wdst : ∀ (c : Dev nD) (i : Fin 15), rot c (15 - (via i).val) = wdst c i := by decide +kernel

omit [FloatOps F] in
/-- What the barrier brings: on the other devices, the rows this one fills. -/
theorem tables_in : (bigSep Finset.univ fun j : Fin 15 => barPay (F := F) (rot c (15 - j.val)) j)
    ⊢ (iprop((bigSep Finset.univ fun j : Fin 15 => iprop(∃ f, cPts (F := F) (rot c (j.val + 1)) c fullShare f))
        ∗ bigSep Finset.univ fun n : Fin 15 => iprop(∃ f, wPts (F := F) (wdst c (pslot n.val)) (wsrc c (pslot n.val)) fullShare f)) : sProp 𝕄) := by
  unfold barPay
  rw [bigSep_sep']
  refine sep_mono (Entails.of_eq ?_) (Entails.of_eq ?_)
  · rw [bigSep_univ_equiv flip15]
    refine bigSep_congr fun j _ => ?_
    have h1 : rot c (15 - (flip15 j).val) = rot c (j.val + 1) := congrArg (rot c) (by show 15 - (14 - j.val) = _; omega)
    have h2 : rot (rot c (j.val + 1)) ((flip15 j).val + 1) = c := by
      rw [rot_rot]; exact rot_full c (by show _ + (14 - j.val + 1) = _; omega)
    rw [h1, h2]
  · refine Eq.trans ?_ (bigSep_univ_equiv pslotEquiv fun i : Fin 15 => iprop(∃ f, wPts (F := F) (wdst c i) (wsrc c i) fullShare f))
    rw [← bigSep_labels via fun i : Fin 15 => iprop(∃ f, wPts (F := F) (wdst c i) (wsrc c i) fullShare f)]
    refine bigSep_congr fun j _ => bigSep_congr fun i hi => ?_
    have hi := (Finset.mem_filter.mp hi).2
    rw [← hi, via_wdst, wrow_wdst]

end Cert.Moe
-- ==== Proof.Start.lean ====
module

public import proofs.«01_k».proof.Proof.Tables

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! # From the barrier to the first send -/

variable (m : (ℓ : Loc nD τ sig) → Buf (Elt F) ℓ) (Kb : Dev nD → ℕ) (Kd : Dev nD × (Fin 4 × Fin 15) → ℕ) (c : Dev nD)

/-- The tokens, positions and credit of a device's copies. -/
def Tk : sProp 𝕄 :=
  iprop((bigSep Finset.univ fun j : Fin 15 => dutyTok ER (dCell c (2, j)) 0 (0 : Fin 15))
    ∗ (bigSep Finset.univ fun j : Fin 15 => dutyTok ER (dCell (rot c (j.val + 1)) (3, j)) 0 (0 : Fin 15))
    ∗ (bigSep Finset.univ fun i : Fin 15 => dutyTok ER (dCell c (0, i)) 0 (0 : Fin 15))
    ∗ (bigSep Finset.univ fun i : Fin 15 => dutyTok ER (dCell (wdst c i) (1, i)) 0 (0 : Fin 15))
    ∗ (bigSep Finset.univ fun j : Fin 15 => atPos ER (dCell c (2, j)) 0 ∅ 0)
    ∗ (bigSep Finset.univ fun j : Fin 15 => atPos ER (dCell c (3, j)) 0 ∅ 0)
    ∗ (bigSep Finset.univ fun i : Fin 15 => atPos ER (dCell c (0, i)) 0 ∅ 0)
    ∗ (bigSep Finset.univ fun i : Fin 15 => atPos ER (dCell c (1, i)) 0 ∅ 0)
    ∗ (bigSep Finset.univ fun j : Fin 15 => cred (tallyAt (dCell c (3, j)) () Nc))
    ∗ (bigSep Finset.univ fun i : Fin 15 => cred (tallyAt (dCell c (1, i)) () Nw)))

omit [FloatOps F] in
theorem in_order (Φ : Fin 15 → sProp (MT nD τ sig Unit (Elt F) ℕ UU ℕ)) :
    bigSep Finset.univ Φ ⊢ bigSep Finset.univ fun n : Fin 15 => Φ (pslot n.val) := Entails.of_eq (bigSep_univ_equiv pslotEquiv Φ)

theorem share_row (s : Dev nD) (q : PosShare TreeShare) (f : S16x4x256x512.Idx → Elt F .bf16) :
    wPts (F := F) c s q f ⊢ iprop(wPts (F := F) c s q.left f ∗ wPts (F := F) c s q.right f) :=
  (pointsTo_share (PosShare.mem_left_op_right q)).1

theorem WqB_zero : WqB m c ⟨0, by decide⟩ = wPts c c fullShare.left (wAll m) := if_pos rfl
theorem WqB_one : WqB m c ⟨1, by decide⟩ = wPts c c fullShare.right.left (wAll m) := (if_neg (by decide)).trans (if_pos rfl)

/-- What the first two sends read. -/
theorem rows_start : iprop(WqB m c ⟨0, by decide⟩ ∗ WqB m c ⟨1, by decide⟩)
    ⊢ Ph (N := 17) (fun _ => iprop(emp)) (WqB m c) (fun _ => iprop(emp)) (0 + 2) 0 := by
  iintro ⟨H0, H1⟩
  have h0 : iprop(emp) ⊢ Ph (N := 17) (fun _ => iprop(emp)) (WqB m c) (fun _ => iprop(emp)) 0 0 := by
    rw [Ph_start]; exact Entails.of_eq (bigSep_emp_const _).symm
  have h1 := Ph_fst (N := 17) (A := fun _ => iprop(emp)) (B := WqB m c) (C := fun _ => iprop(emp)) (p := 0) (s := 0) (by decide) (by decide)
  have h2 := Ph_fst (N := 17) (A := fun _ => iprop(emp)) (B := WqB m c) (C := fun _ => iprop(emp)) (p := 1) (s := 0) (by decide) (by decide)
  ihave HP := (h0.trans h1) $$ []
  · iempintro
  icases HP with ⟨-, HP⟩
  ihave HP := HP $$ H0
  ihave HP := h2 $$ HP
  icases HP with ⟨-, HP⟩
  iapply HP; iexact H1

/-- The own rows cut up among the copies and the device's loads. -/
theorem settle : iprop(records m Kb Kd ∗ ow (F := F) c 15 ∗ wPts c c fullShare (wAll m) ∗ cPts c c fullShare (cAll m)
      ∗ ((bigSep Finset.univ fun j : Fin 15 => iprop(∃ f, cPts (F := F) (rot c (j.val + 1)) c fullShare f))
        ∗ bigSep Finset.univ fun n : Fin 15 => iprop(∃ f, wPts (F := F) (wdst c (pslot n.val)) (wsrc c (pslot n.val)) fullShare f))
      ∗ Tk (F := F) c)
    ⊢ St m Kb Kd c 15 0 0 0 0 0 0 := by
  unfold Tk
  iintro ⟨#HR, HO, Hw, Hc, ⟨Hcs, Hws⟩, T2, T3, T0, T1, A2, A3, A0, A1, C3, C1⟩
  ihave T0 := (in_order (F := F) _) $$ T0
  ihave T1 := (in_order (F := F) _) $$ T1
  ihave A0 := (in_order (F := F) _) $$ A0
  ihave A1 := (in_order (F := F) _) $$ A1
  ihave C1 := (in_order (F := F) _) $$ C1
  ihave Hw := (share_row c c fullShare (wAll m)) $$ Hw
  icases Hw with ⟨Hl, Hw⟩
  ihave Hw := (share_row c c fullShare.right (wAll m)) $$ Hw
  icases Hw with ⟨Hrl, Hrr⟩
  unfold cPts
  ihave Hc := (Transfers.pointsTo_toks_split fullShare 15) $$ Hc
  icases Hc with ⟨Hd, Hc⟩
  unfold St
  isplitr; · iexact HR
  isplitl [HO]; · iexact HO
  isplitl [T2 T3 Hcs Hc A2]
  · rw [Ph_start]
    unfold CsA cPts
    rw [bigSep_sep', bigSep_sep', bigSep_sep', bigSep_sep']
    isplitl [T2]; · iexact T2
    isplitl [T3]; · iexact T3
    isplitl [Hcs]; · iexact Hcs
    isplitl [Hc]; · iexact Hc
    iexact A2
  isplitl [C3 A3]
  · rw [Ph_mid]
    unfold CrB
    rw [bigSep_sep']
    isplitl [C3]; · iexact C3
    iexact A3
  isplitl [Hd]; · unfold cPts; iexact Hd
  isplitl [T0 T1 Hws A0]
  · rw [Ph_start]
    unfold WsA
    rw [bigSep_sep', bigSep_sep', bigSep_sep']
    isplitl [T0]; · iexact T0
    isplitl [T1]; · iexact T1
    isplitl [Hws]; · iexact Hws
    iexact A0
  isplitl [C1 A1]
  · rw [Ph_mid]
    unfold WrB
    rw [bigSep_sep']
    isplitl [C1]; · iexact C1
    iexact A1
  isplitr [Hrr]
  · iapply (rows_start m c)
    rw [WqB_zero, WqB_one]
    isplitl [Hl]; · iexact Hl
    iexact Hrl
  iexact Hrr

/-! ## The barrier, the loads and the own rows -/

/-- The signals as far as number `n`. -/
def Sg (n : ℕ) : sProp 𝕄 :=
  iprop(records m Kb Kd ∗ ow (F := F) c n ∗ Ph (SgA c) (fun _ => iprop(emp)) (fun _ => iprop(emp)) n 0)
/-- The staged blocks. -/
abbrev rPts : sProp 𝕄 := ((c : Thread nD τ).loc cc0_stg1_0) ↦{fullShare} rstg m c
abbrev ePts : sProp 𝕄 := ((c : Thread nD τ).loc cc0_stg2_0) ↦{fullShare} estg m c

variable {R : sProp (MT nD τ sig Unit (Elt F) ℕ UU ℕ)}

theorem wp_sg (j : Fin 15) {r : Dev nD} (hr : r = rot c (j.val + 1)) {α : Type} {Q : α → sProp (MT nD τ sig Unit (Elt F) ℕ UU ℕ)}
    {k : PUnit → Prog (TpuEff nD τ sig (Elt F) Λ₀ .tc) α} {a : ℕ} (ha : a = 1) :
    Sg m Kb Kd c j.val ⊢ iprop((Sg m Kb Kd c (j.val + 1) -∗ WP c (k ⟨⟩) Q) -∗ WP c (.op (.semSignal (r : Thread nD τ) barS a) k) Q) :=
  wp_sig m Kb Kd c j hr ha

theorem part1 {Q : _ → sProp (MT nD τ sig Unit (Elt F) ℕ UU ℕ)}
    (h : ∀ v5 v7 v25, iprop(Sg m Kb Kd c 4 ∗ R) ⊢ Q ⟨c, wd c, v5, v7, SemArray.scalar (sig.barrier 0 rfl), v25, 16#32⟩) :
    iprop(Sg m Kb Kd c 0 ∗ R)
      ⊢ WP c (k0_part1 xM (Memref.isWhole_whole _) rM (Memref.isWhole_whole _) eM (Memref.isWhole_whole _) oM (Memref.isWhole_whole _)
        wM (Memref.isWhole_whole _) cM (Memref.isWhole_whole _) cc0_scratch2 cc0_scratch3 cc0_scratch4 cc0_scratch5) Q := by
  rw [k0_part1_eq_skeleton]; unfold k0_part1_skel
  simp only [semSignalWord, Prog.lift, Prog.bind_op, Prog.bind_ret, Prog.pure_eq_ret, wp_deviceId]
  refine step (wp_sg m Kb Kd c 0 (Fin.ext (k0_dev1_eq c)) (by rfl)) ?_
  refine step (wp_sg m Kb Kd c 1 (Fin.ext (k0_dev2_eq c)) (by rfl)) ?_
  refine step (wp_sg m Kb Kd c 2 (Fin.ext (k0_dev3_eq c)) (by rfl)) ?_
  refine step (wp_sg m Kb Kd c 3 (Fin.ext (k0_dev4_eq c)) (by rfl)) ?_
  have hw : Scalar.remsi (Scalar.divsi (Dev.word c) 1#32) 16#32 = wd c :=
    (by decide +kernel : ∀ c : Dev nD, Scalar.remsi (Scalar.divsi (Dev.word c) 1#32) 16#32 = wd c) c
  rw [hw]
  exact endStep c (h _ _ _)

theorem part2 (v2 v25 a : BitVec 32) {Q : _ → sProp (MT nD τ sig Unit (Elt F) ℕ UU ℕ)} (h : ∀ x, iprop(Sg m Kb Kd c 10 ∗ R) ⊢ Q x) :
    iprop(Sg m Kb Kd c 4 ∗ R)
      ⊢ WP c (k0_part2 xM (Memref.isWhole_whole _) rM (Memref.isWhole_whole _) eM (Memref.isWhole_whole _) oM (Memref.isWhole_whole _)
        wM (Memref.isWhole_whole _) cM (Memref.isWhole_whole _) cc0_scratch2 cc0_scratch3 cc0_scratch4 cc0_scratch5 c v2 (SemArray.scalar (sig.barrier 0 rfl)) v25 a) Q := by
  rw [k0_part2_eq_skeleton]; unfold k0_part2_skel
  simp only [semSignalWord, Prog.lift, Prog.bind_op, Prog.bind_ret, Prog.pure_eq_ret]
  refine step (wp_sg m Kb Kd c 4 (Fin.ext (k0_dev5_eq c)) (by rfl)) ?_
  refine step (wp_sg m Kb Kd c 5 (Fin.ext (k0_dev6_eq c)) (by rfl)) ?_
  refine step (wp_sg m Kb Kd c 6 (Fin.ext (k0_dev7_eq c)) (by rfl)) ?_
  refine step (wp_sg m Kb Kd c 7 (Fin.ext (k0_dev8_eq c)) (by rfl)) ?_
  refine step (wp_sg m Kb Kd c 8 (Fin.ext (k0_dev9_eq c)) (by rfl)) ?_
  refine step (wp_sg m Kb Kd c 9 (Fin.ext (k0_dev10_eq c)) (by rfl)) ?_
  exact endStep c (h _)

theorem part3 (v2 v49 a : BitVec 32) {Q : _ → sProp (MT nD τ sig Unit (Elt F) ℕ UU ℕ)}
    (h : iprop((records m Kb Kd ∗ ow (F := F) c 15 ∗ atPos ER (barCell c) 1 ∅ 0
        ∗ bigSep Finset.univ fun d : Fin 15 => barPay (F := F) (rot c (15 - d.val)) d) ∗ rPts m c ∗ R)
      ⊢ Q ⟨k0_pay2 (rstg m c), k0_pay3 (rstg m c)⟩) :
    iprop(Sg m Kb Kd c 10 ∗ (cred (tallyAt (barCell c) () 15) ∗ atPos ER (barCell c) 0 ∅ 0) ∗ rPts m c ∗ R)
      ⊢ WP c (k0_part3 xM (Memref.isWhole_whole _) rM (Memref.isWhole_whole _) eM (Memref.isWhole_whole _) oM (Memref.isWhole_whole _)
        wM (Memref.isWhole_whole _) cM (Memref.isWhole_whole _) cc0_scratch2 cc0_scratch3 cc0_scratch4 cc0_scratch5 c v2 (SemArray.scalar (sig.barrier 0 rfl)) v49 a) Q := by
  rw [k0_part3_eq_skeleton]; unfold k0_part3_skel
  simp only [semSignalWord, semWaitWord, Prog.lift, Prog.bind_op, Prog.bind_ret, Prog.pure_eq_ret]
  refine step (wp_sg m Kb Kd c 10 (Fin.ext (k0_dev11_eq c)) (by rfl)) ?_
  refine step (wp_sg m Kb Kd c 11 (Fin.ext (k0_dev12_eq c)) (by rfl)) ?_
  refine step (wp_sg m Kb Kd c 12 (Fin.ext (k0_dev13_eq c)) (by rfl)) ?_
  refine step (wp_sg m Kb Kd c 13 (Fin.ext (k0_dev14_eq c)) (by rfl)) ?_
  refine step (wp_sg m Kb Kd c 14 (Fin.ext (k0_dev15_eq c)) (by rfl)) ?_
  unfold Sg
  iintro ⟨⟨#HR, HO, -⟩, ⟨Hc, Hat⟩, Hr, HF⟩
  iapply (wp_barwait m Kb Kd c (a := 15) rfl) $$ [HO Hc Hat]
  · isplitr; · iexact HR
    isplitl [HO]; · iexact HO
    isplitl [Hc] <;> iassumption
  iintro ⟨HO, Hat, HP⟩
  iapply (wp_load 𝒱₀ (c : Thread nD τ) none Set.univ (m := rM) (Finset.subset_univ _)) $$ Hr; iintro Hr
  rw [show rM.view.readAt (Elt F) (Rect.unit (s := S1024x1) ![0, 0] S1024x1.size inb_S1024x1_S1024x1_0_0).toLoadRect (rstg m c) = rstg m c
    from Memref.readAt_unit_zero (Elt F) cc0_stg1_0 hz2 _ _]
  iapply (endStep c h)
  isplitr [Hr HF]
  · isplitr; · iexact HR
    isplitl [HO]; · iexact HO
    isplitl [Hat] <;> iassumption
  isplitl [Hr] <;> iassumption

theorem hz3 : (![0, 0, 0] : Fin 3 → Nat) = fun _ => 0 := funext fun a => by fin_cases a <;> rfl

/-- The device's own row of the table, stored. -/
theorem wp_w_own {off : Fin 4 → ℕ} {inb : ∀ a, off a + S1x4x256x512.size a ≤ S16x4x256x512.size a} (h : off = ![c.val, 0, 0, 0])
    {hl : wM.view.LoadsAt (Rect.unit (s := S16x4x256x512) off S1x4x256x512.size inb).toLoadRect}
    {hx : (wM.access (Rect.unit (s := S16x4x256x512) off S1x4x256x512.size inb)).Stores Finset.univ}
    {hm : (Finset.univ : Finset (Rect.unit (s := S16x4x256x512) off S1x4x256x512.size inb).shape.Idx) = Finset.univ ∨ ∀ a, (Rect.unit (s := S16x4x256x512) off S1x4x256x512.size inb).stride a = 1}
    {α : Type} {k : PUnit → Prog (TpuEff nD τ sig (Elt F) Λ₀ .tc) α} {Q : α → sProp (MT nD τ sig Unit (Elt F) ℕ UU ℕ)} :
    iprop(∃ f, wPts (F := F) c c fullShare f)
      ⊢ iprop((wPts c c fullShare (wAll m) -∗ WP c (k ⟨⟩) Q)
        -∗ WP c (.op (.load wM (Rect.unit (s := S16x4x256x512) off S1x4x256x512.size inb).toLoadRect hl) fun _ =>
          .op (.store wM (Rect.unit (s := S16x4x256x512) off S1x4x256x512.size inb) (k0_pay5 (estg m c)) Finset.univ hx hm) k) Q) := by
  subst h
  iintro ⟨%f, H⟩ Hk
  unfold wPts
  iapply (wp_load_rect 𝒱₀ (c : Thread nD τ) none Set.univ (m := wM) (r := wRect c) (wRow_set c).symm.le) $$ H; iintro H
  iapply (wp_store 𝒱₀ (c : Thread nD τ) none Set.univ (m := wM) (r := wRect c) (Mk := Finset.univ) ((wM.access (wRect c)).setOn_univ.trans (wRow_set c).symm).le) $$ H; iintro H
  iapply Hk
  iapply (Entails.of_eq (pointsTo_congr (wStore m c f))); iexact H

/-- The device's own row of the table, stored. -/
theorem wp_c_own {off : Fin 3 → ℕ} {inb : ∀ a, off a + S1x8x128.size a ≤ S16x8x128.size a} (h : off = ![c.val, 0, 0])
    {hl : cM.view.LoadsAt (Rect.unit (s := S16x8x128) off S1x8x128.size inb).toLoadRect}
    {hx : (cM.access (Rect.unit (s := S16x8x128) off S1x8x128.size inb)).Stores Finset.univ}
    {hm : (Finset.univ : Finset (Rect.unit (s := S16x8x128) off S1x8x128.size inb).shape.Idx) = Finset.univ ∨ ∀ a, (Rect.unit (s := S16x8x128) off S1x8x128.size inb).stride a = 1}
    {α : Type} {k : PUnit → Prog (TpuEff nD τ sig (Elt F) Λ₀ .tc) α} {Q : α → sProp (MT nD τ sig Unit (Elt F) ℕ UU ℕ)} :
    iprop(∃ f, cPts (F := F) c c fullShare f)
      ⊢ iprop((cPts c c fullShare (cAll m) -∗ WP c (k ⟨⟩) Q)
        -∗ WP c (.op (.load cM (Rect.unit (s := S16x8x128) off S1x8x128.size inb).toLoadRect hl) fun _ =>
          .op (.store cM (Rect.unit (s := S16x8x128) off S1x8x128.size inb) (k0_pay6 (k0_pay3 (rstg m c))) Finset.univ hx hm) k) Q) := by
  subst h
  iintro ⟨%f, H⟩ Hk
  unfold cPts
  iapply (wp_load_rect 𝒱₀ (c : Thread nD τ) none Set.univ (m := cM) (r := cRect c) (cRow_set c).symm.le) $$ H; iintro H
  iapply (wp_store 𝒱₀ (c : Thread nD τ) none Set.univ (m := cM) (r := cRect c) (Mk := Finset.univ) ((cM.access (cRect c)).setOn_univ.trans (cRow_set c).symm).le) $$ H; iintro H
  iapply Hk
  iapply (Entails.of_eq (pointsTo_congr (cStore m c f))); iexact H

theorem swap₁ {A B R G : sProp (MT nD τ sig Unit (Elt F) ℕ UU ℕ)} (h : iprop(B ∗ A ∗ R) ⊢ G) : iprop(A ∗ B ∗ R) ⊢ G := by
  iintro ⟨HA, HB, HR⟩
  iapply h
  isplitl [HB]; · iexact HB
  isplitl [HA] <;> iassumption
theorem swap₂ {A B C R G : sProp (MT nD τ sig Unit (Elt F) ℕ UU ℕ)} (h : iprop(C ∗ A ∗ B ∗ R) ⊢ G) : iprop(A ∗ B ∗ C ∗ R) ⊢ G := by
  iintro ⟨HA, HB, HC, HR⟩
  iapply h
  isplitl [HC]; · iexact HC
  isplitl [HA]; · iexact HA
  isplitl [HB] <;> iassumption
theorem swap₃ {A B C R G : sProp (MT nD τ sig Unit (Elt F) ℕ UU ℕ)} (h : iprop(C ∗ B ∗ A ∗ R) ⊢ G) : iprop(A ∗ B ∗ C ∗ R) ⊢ G := by
  iintro ⟨HA, HB, HC, HR⟩
  iapply h
  isplitl [HC]; · iexact HC
  isplitl [HB]; · iexact HB
  isplitl [HA] <;> iassumption

theorem wp_eload {hl : eM.view.LoadsAt (Rect.unit (s := S4x256x512) ![0, 0, 0] S4x256x512.size inb_S4x256x512_S4x256x512_0_0_0).toLoadRect}
    {α : Type} {k : Vec F S4x256x512 .bf16 → Prog (TpuEff nD τ sig (Elt F) Λ₀ .tc) α} {Q : α → sProp (MT nD τ sig Unit (Elt F) ℕ UU ℕ)} :
    ePts m c ⊢ iprop((ePts m c -∗ WP c (k (estg m c)) Q)
      -∗ WP c (.op (.load eM (Rect.unit (s := S4x256x512) ![0, 0, 0] S4x256x512.size inb_S4x256x512_S4x256x512_0_0_0).toLoadRect hl) k) Q) := by
  iintro He Hk
  iapply (wp_load 𝒱₀ (c : Thread nD τ) none Set.univ (m := eM) (Finset.subset_univ _)) $$ He; iintro He
  rw [show eM.view.readAt (Elt F) (Rect.unit (s := S4x256x512) ![0, 0, 0] S4x256x512.size inb_S4x256x512_S4x256x512_0_0_0).toLoadRect (estg m c) = estg m c
    from Memref.readAt_unit_zero (Elt F) cc0_stg2_0 hz3 _ _]
  iapply Hk; iexact He

theorem part4 (v2 : BitVec 32) {Q : _ → sProp (MT nD τ sig Unit (Elt F) ℕ UU ℕ)}
    (h : ∀ x, iprop(ePts m c ∗ wPts c c fullShare (wAll m) ∗ cPts c c fullShare (cAll m) ∗ R) ⊢ Q ⟨k0_pay4 (k0_pay3 (rstg m c)), x⟩) :
    iprop(ePts m c ∗ (∃ f, wPts (F := F) c c fullShare f) ∗ (∃ f, cPts (F := F) c c fullShare f) ∗ R)
      ⊢ WP c (k0_part4 xM (Memref.isWhole_whole _) rM (Memref.isWhole_whole _) eM (Memref.isWhole_whole _) oM (Memref.isWhole_whole _)
        wM (Memref.isWhole_whole _) cM (Memref.isWhole_whole _) cc0_scratch2 cc0_scratch3 cc0_scratch4 cc0_scratch5 c v2 (k0_pay3 (rstg m c))) Q := by
  rw [k0_part4_eq_skeleton]; unfold k0_part4_skel
  simp only [Prog.lift, Prog.bind_op, Prog.bind_ret, Prog.pure_eq_ret]
  refine step (wp_eload m c) ?_
  refine swap₁ (step (wp_w_own m c (k0_off1_eq c)) ?_)
  refine swap₂ (step (wp_c_own m c (k0_off2_eq c)) ?_)
  refine swap₃ (endStep c (h _))

end Cert.Moe
-- ==== Proof.Counts.lean ====
module

public import proofs.«01_k».proof.Proof.Walk

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! # The counts are exchanged -/

variable (m : (ℓ : Loc nD τ sig) → Buf (Elt F) ℓ) (Kb : Dev nD → ℕ) (Kd : Dev nD × (Fin 4 × Fin 15) → ℕ) (c : Dev nD)

theorem part5 (v2 : BitVec 32) {R : sProp (MT nD τ sig Unit (Elt F) ℕ UU ℕ)} {Q : (Σ' (v115 : BitVec 32) (v128 : BitVec 32) (v141 : BitVec 32), BitVec 32) → sProp (MT nD τ sig Unit (Elt F) ℕ UU ℕ)}
    (h : ∀ x, iprop(St m Kb Kd c 18 3 0 0 0 0 0 ∗ R) ⊢ Q x) :
    iprop(St m Kb Kd c 15 0 0 0 0 0 0 ∗ R)
      ⊢ WP c (k0_part5 xM (Memref.isWhole_whole _) rM (Memref.isWhole_whole _) eM (Memref.isWhole_whole _) oM (Memref.isWhole_whole _)
        wM (Memref.isWhole_whole _) cM (Memref.isWhole_whole _) cc0_scratch2 cc0_scratch3 cc0_scratch4 cc0_scratch5 c v2) Q := by
  rw [k0_part5_eq_skeleton]; unfold k0_part5_skel
  simp only [Prog.lift, Prog.bind_op, Prog.bind_ret, Prog.pure_eq_ret]
  refine step (wp_csend m Kb Kd c 0 (by decide) (by decide) (Fin.ext (k0_dev16_eq c)) (cRow_at (k0_off3_eq c)) (cRow_at (k0_off3_eq c)) (by rfl) (by rfl)) ?_
  refine step (wp_csend m Kb Kd c 1 (by decide) (by decide) (Fin.ext (k0_dev17_eq c)) (cRow_at (k0_off3_eq c)) (cRow_at (k0_off3_eq c)) (by rfl) (by rfl)) ?_
  refine step (wp_csend m Kb Kd c 2 (by decide) (by decide) (Fin.ext (k0_dev18_eq c)) (cRow_at (k0_off3_eq c)) (cRow_at (k0_off3_eq c)) (by rfl) (by rfl)) ?_
  exact endStep c (h _)

theorem part6 (v2 : BitVec 32) (v141 : BitVec 32) (c1_i32_115 : BitVec 32) {R : sProp (MT nD τ sig Unit (Elt F) ℕ UU ℕ)} {Q : (Σ' (v154 : BitVec 32), BitVec 32) → sProp (MT nD τ sig Unit (Elt F) ℕ UU ℕ)}
    (h : ∀ x, iprop(St m Kb Kd c 20 5 0 0 0 0 0 ∗ R) ⊢ Q x) :
    iprop(St m Kb Kd c 18 3 0 0 0 0 0 ∗ R)
      ⊢ WP c (k0_part6 xM (Memref.isWhole_whole _) rM (Memref.isWhole_whole _) eM (Memref.isWhole_whole _) oM (Memref.isWhole_whole _)
        wM (Memref.isWhole_whole _) cM (Memref.isWhole_whole _) cc0_scratch2 cc0_scratch3 cc0_scratch4 cc0_scratch5 c v2 v141 c1_i32_115) Q := by
  rw [k0_part6_eq_skeleton]; unfold k0_part6_skel
  simp only [Prog.lift, Prog.bind_op, Prog.bind_ret, Prog.pure_eq_ret]
  refine step (wp_csend m Kb Kd c 3 (by decide) (by decide) (Fin.ext (k0_dev19_eq c)) (cRow_at (k0_off3_eq c)) (cRow_at (k0_off3_eq c)) (by rfl) (by rfl)) ?_
  refine step (wp_csend m Kb Kd c 4 (by decide) (by decide) (Fin.ext (k0_dev20_eq c)) (cRow_at (k0_off3_eq c)) (cRow_at (k0_off3_eq c)) (by rfl) (by rfl)) ?_
  exact endStep c (h _)

theorem part7 (v2 : BitVec 32) {R : sProp (MT nD τ sig Unit (Elt F) ℕ UU ℕ)} {Q : (Σ' (v180 : BitVec 32) (v193 : BitVec 32), BitVec 32) → sProp (MT nD τ sig Unit (Elt F) ℕ UU ℕ)}
    (h : ∀ x, iprop(St m Kb Kd c 23 8 0 0 0 0 0 ∗ R) ⊢ Q x) :
    iprop(St m Kb Kd c 20 5 0 0 0 0 0 ∗ R)
      ⊢ WP c (k0_part7 xM (Memref.isWhole_whole _) rM (Memref.isWhole_whole _) eM (Memref.isWhole_whole _) oM (Memref.isWhole_whole _)
        wM (Memref.isWhole_whole _) cM (Memref.isWhole_whole _) cc0_scratch2 cc0_scratch3 cc0_scratch4 cc0_scratch5 c v2) Q := by
  rw [k0_part7_eq_skeleton]; unfold k0_part7_skel
  simp only [Prog.lift, Prog.bind_op, Prog.bind_ret, Prog.pure_eq_ret]
  refine step (wp_csend m Kb Kd c 5 (by decide) (by decide) (Fin.ext (k0_dev21_eq c)) (cRow_at (k0_off3_eq c)) (cRow_at (k0_off3_eq c)) (by rfl) (by rfl)) ?_
  refine step (wp_csend m Kb Kd c 6 (by decide) (by decide) (Fin.ext (k0_dev22_eq c)) (cRow_at (k0_off3_eq c)) (cRow_at (k0_off3_eq c)) (by rfl) (by rfl)) ?_
  refine step (wp_csend m Kb Kd c 7 (by decide) (by decide) (Fin.ext (k0_dev23_eq c)) (cRow_at (k0_off3_eq c)) (cRow_at (k0_off3_eq c)) (by rfl) (by rfl)) ?_
  exact endStep c (h _)

theorem part8 (v2 : BitVec 32) (v205 : BitVec 32) {R : sProp (MT nD τ sig Unit (Elt F) ℕ UU ℕ)} {Q : (Σ' (v206 : BitVec 32) (v219 : BitVec 32), BitVec 32) → sProp (MT nD τ sig Unit (Elt F) ℕ UU ℕ)}
    (h : ∀ x, iprop(St m Kb Kd c 25 10 0 0 0 0 0 ∗ R) ⊢ Q x) :
    iprop(St m Kb Kd c 23 8 0 0 0 0 0 ∗ R)
      ⊢ WP c (k0_part8 xM (Memref.isWhole_whole _) rM (Memref.isWhole_whole _) eM (Memref.isWhole_whole _) oM (Memref.isWhole_whole _)
        wM (Memref.isWhole_whole _) cM (Memref.isWhole_whole _) cc0_scratch2 cc0_scratch3 cc0_scratch4 cc0_scratch5 c v2 v205) Q := by
  rw [k0_part8_eq_skeleton]; unfold k0_part8_skel
  simp only [Prog.lift, Prog.bind_op, Prog.bind_ret, Prog.pure_eq_ret]
  refine step (wp_csend m Kb Kd c 8 (by decide) (by decide) (Fin.ext (k0_dev24_eq c)) (cRow_at (k0_off3_eq c)) (cRow_at (k0_off3_eq c)) (by rfl) (by rfl)) ?_
  refine step (wp_csend m Kb Kd c 9 (by decide) (by decide) (Fin.ext (k0_dev25_eq c)) (cRow_at (k0_off3_eq c)) (cRow_at (k0_off3_eq c)) (by rfl) (by rfl)) ?_
  exact endStep c (h _)

theorem part9 (v2 : BitVec 32) {R : sProp (MT nD τ sig Unit (Elt F) ℕ UU ℕ)} {Q : (Σ' (v245 : BitVec 32), BitVec 32) → sProp (MT nD τ sig Unit (Elt F) ℕ UU ℕ)}
    (h : ∀ x, iprop(St m Kb Kd c 27 12 0 0 0 0 0 ∗ R) ⊢ Q x) :
    iprop(St m Kb Kd c 25 10 0 0 0 0 0 ∗ R)
      ⊢ WP c (k0_part9 xM (Memref.isWhole_whole _) rM (Memref.isWhole_whole _) eM (Memref.isWhole_whole _) oM (Memref.isWhole_whole _)
        wM (Memref.isWhole_whole _) cM (Memref.isWhole_whole _) cc0_scratch2 cc0_scratch3 cc0_scratch4 cc0_scratch5 c v2) Q := by
  rw [k0_part9_eq_skeleton]; unfold k0_part9_skel
  simp only [Prog.lift, Prog.bind_op, Prog.bind_ret, Prog.pure_eq_ret]
  refine step (wp_csend m Kb Kd c 10 (by decide) (by decide) (Fin.ext (k0_dev26_eq c)) (cRow_at (k0_off3_eq c)) (cRow_at (k0_off3_eq c)) (by rfl) (by rfl)) ?_
  refine step (wp_csend m Kb Kd c 11 (by decide) (by decide) (Fin.ext (k0_dev27_eq c)) (cRow_at (k0_off3_eq c)) (cRow_at (k0_off3_eq c)) (by rfl) (by rfl)) ?_
  exact endStep c (h _)

theorem part10 (v2 : BitVec 32) (v7 : BitVec 32) {R : sProp (MT nD τ sig Unit (Elt F) ℕ UU ℕ)} {Q : (Σ' (v271 : BitVec 32), BitVec 32) → sProp (MT nD τ sig Unit (Elt F) ℕ UU ℕ)}
    (h : ∀ x, iprop(St m Kb Kd c 30 15 0 0 0 0 0 ∗ R) ⊢ Q x) :
    iprop(St m Kb Kd c 27 12 0 0 0 0 0 ∗ R)
      ⊢ WP c (k0_part10 xM (Memref.isWhole_whole _) rM (Memref.isWhole_whole _) eM (Memref.isWhole_whole _) oM (Memref.isWhole_whole _)
        wM (Memref.isWhole_whole _) cM (Memref.isWhole_whole _) cc0_scratch2 cc0_scratch3 cc0_scratch4 cc0_scratch5 c v2 v7) Q := by
  rw [k0_part10_eq_skeleton]; unfold k0_part10_skel
  simp only [Prog.lift, Prog.bind_op, Prog.bind_ret, Prog.pure_eq_ret]
  refine step (wp_csend m Kb Kd c 12 (by decide) (by decide) (Fin.ext (k0_dev28_eq c)) (cRow_at (k0_off3_eq c)) (cRow_at (k0_off3_eq c)) (by rfl) (by rfl)) ?_
  refine step (wp_csend m Kb Kd c 13 (by decide) (by decide) (Fin.ext (k0_dev29_eq c)) (cRow_at (k0_off3_eq c)) (cRow_at (k0_off3_eq c)) (by rfl) (by rfl)) ?_
  refine step (wp_csend m Kb Kd c 14 (by decide) (by decide) (Fin.ext (k0_dev30_eq c)) (cRow_at (k0_off3_eq c)) (cRow_at (k0_off3_eq c)) (by rfl) (by rfl)) ?_
  exact endStep c (h _)

theorem part11 (v5 : BitVec 32) (v77 : FVec F S1024x64 .bf16) (v102 : BitVec 32) {R : sProp (MT nD τ sig Unit (Elt F) ℕ UU ℕ)} {Q : (FVec F S1024x64 .f32) → sProp (MT nD τ sig Unit (Elt F) ℕ UU ℕ)}
    (h : iprop(St m Kb Kd c 32 15 0 1 2 0 0 ∗ R) ⊢ Q (k0_pay7 v77)) :
    iprop(St m Kb Kd c 30 15 0 0 0 0 0 ∗ R)
      ⊢ WP c (k0_part11 xM (Memref.isWhole_whole _) rM (Memref.isWhole_whole _) eM (Memref.isWhole_whole _) oM (Memref.isWhole_whole _)
        wM (Memref.isWhole_whole _) cM (Memref.isWhole_whole _) cc0_scratch2 cc0_scratch3 cc0_scratch4 cc0_scratch5 c v5 v77 v102) Q := by
  rw [k0_part11_eq_skeleton]; unfold k0_part11_skel
  simp only [Prog.lift, Prog.bind_op, Prog.bind_ret, Prog.pure_eq_ret]
  refine step (wp_wsend m Kb Kd c 0 (by decide) (by decide) (by decide) (Fin.ext (k0_dev31_eq c)) (wRow_at (off_fst c 0)) (wRow_at (off_fst c 0)) (by rfl) (by rfl)) ?_
  refine step (wp_wsend m Kb Kd c 1 (by decide) (by decide) (by decide) (Fin.ext (k0_dev32_eq c)) (wRow_at (off_fst c 1)) (wRow_at (off_fst c 1)) (by rfl) (by rfl)) ?_
  refine step (wp_crecv m Kb Kd c 0 (by decide) (by decide +kernel) (by rfl) (by rfl)) ?_
  exact endStep c h

theorem part12 (v115 : BitVec 32) (v128 : BitVec 32) (v141 : BitVec 32) (v154 : BitVec 32) {R : sProp (MT nD τ sig Unit (Elt F) ℕ UU ℕ)} {Q : (PUnit) → sProp (MT nD τ sig Unit (Elt F) ℕ UU ℕ)}
    (h : iprop(St m Kb Kd c 32 15 0 4 2 0 0 ∗ R) ⊢ Q ⟨⟩) :
    iprop(St m Kb Kd c 32 15 0 1 2 0 0 ∗ R)
      ⊢ WP c (k0_part12 xM (Memref.isWhole_whole _) rM (Memref.isWhole_whole _) eM (Memref.isWhole_whole _) oM (Memref.isWhole_whole _)
        wM (Memref.isWhole_whole _) cM (Memref.isWhole_whole _) cc0_scratch2 cc0_scratch3 cc0_scratch4 cc0_scratch5 c v115 v128 v141 v154) Q := by
  rw [k0_part12_eq_skeleton]; unfold k0_part12_skel
  simp only [Prog.lift, Prog.bind_op, Prog.bind_ret, Prog.pure_eq_ret]
  refine step (wp_crecv m Kb Kd c 1 (by decide) (by decide +kernel) (by rfl) (by rfl)) ?_
  refine step (wp_crecv m Kb Kd c 2 (by decide) (by decide +kernel) (by rfl) (by rfl)) ?_
  refine step (wp_crecv m Kb Kd c 3 (by decide) (by decide +kernel) (by rfl) (by rfl)) ?_
  exact endStep c h

theorem part13 (v167 : BitVec 32) (v180 : BitVec 32) (v193 : BitVec 32) {R : sProp (MT nD τ sig Unit (Elt F) ℕ UU ℕ)} {Q : (BitVec 32) → sProp (MT nD τ sig Unit (Elt F) ℕ UU ℕ)}
    (h : ∀ x, iprop(St m Kb Kd c 32 15 0 8 2 0 0 ∗ R) ⊢ Q x) :
    iprop(St m Kb Kd c 32 15 0 4 2 0 0 ∗ R)
      ⊢ WP c (k0_part13 xM (Memref.isWhole_whole _) rM (Memref.isWhole_whole _) eM (Memref.isWhole_whole _) oM (Memref.isWhole_whole _)
        wM (Memref.isWhole_whole _) cM (Memref.isWhole_whole _) cc0_scratch2 cc0_scratch3 cc0_scratch4 cc0_scratch5 c v167 v180 v193) Q := by
  rw [k0_part13_eq_skeleton]; unfold k0_part13_skel
  simp only [Prog.lift, Prog.bind_op, Prog.bind_ret, Prog.pure_eq_ret]
  refine step (wp_crecv m Kb Kd c 4 (by decide) (by decide +kernel) (by rfl) (by rfl)) ?_
  refine step (wp_crecv m Kb Kd c 5 (by decide) (by decide +kernel) (by rfl) (by rfl)) ?_
  refine step (wp_crecv m Kb Kd c 6 (by decide) (by decide +kernel) (by rfl) (by rfl)) ?_
  refine step (wp_crecv m Kb Kd c 7 (by decide) (by decide +kernel) (by rfl) (by rfl)) ?_
  exact endStep c (h _)

theorem part14 (v206 : BitVec 32) (v219 : BitVec 32) (v232 : BitVec 32) (v245 : BitVec 32) (c1_i32_329 : BitVec 32) {R : sProp (MT nD τ sig Unit (Elt F) ℕ UU ℕ)} {Q : (PUnit) → sProp (MT nD τ sig Unit (Elt F) ℕ UU ℕ)}
    (h : iprop(St m Kb Kd c 32 15 0 11 2 0 0 ∗ R) ⊢ Q ⟨⟩) :
    iprop(St m Kb Kd c 32 15 0 8 2 0 0 ∗ R)
      ⊢ WP c (k0_part14 xM (Memref.isWhole_whole _) rM (Memref.isWhole_whole _) eM (Memref.isWhole_whole _) oM (Memref.isWhole_whole _)
        wM (Memref.isWhole_whole _) cM (Memref.isWhole_whole _) cc0_scratch2 cc0_scratch3 cc0_scratch4 cc0_scratch5 c v206 v219 v232 v245 c1_i32_329) Q := by
  rw [k0_part14_eq_skeleton]; unfold k0_part14_skel
  simp only [Prog.lift, Prog.bind_op, Prog.bind_ret, Prog.pure_eq_ret]
  refine step (wp_crecv m Kb Kd c 8 (by decide) (by decide +kernel) (by rfl) (by rfl)) ?_
  refine step (wp_crecv m Kb Kd c 9 (by decide) (by decide +kernel) (by rfl) (by rfl)) ?_
  refine step (wp_crecv m Kb Kd c 10 (by decide) (by decide +kernel) (by rfl) (by rfl)) ?_
  exact endStep c h

theorem part15 (v258 : BitVec 32) (v271 : BitVec 32) (v284 : BitVec 32) {R : sProp (MT nD τ sig Unit (Elt F) ℕ UU ℕ)} {Q : (PUnit) → sProp (MT nD τ sig Unit (Elt F) ℕ UU ℕ)}
    (h : iprop(St m Kb Kd c 32 15 0 15 2 0 0 ∗ R) ⊢ Q ⟨⟩) :
    iprop(St m Kb Kd c 32 15 0 11 2 0 0 ∗ R)
      ⊢ WP c (k0_part15 xM (Memref.isWhole_whole _) rM (Memref.isWhole_whole _) eM (Memref.isWhole_whole _) oM (Memref.isWhole_whole _)
        wM (Memref.isWhole_whole _) cM (Memref.isWhole_whole _) cc0_scratch2 cc0_scratch3 cc0_scratch4 cc0_scratch5 c v258 v271 v284) Q := by
  rw [k0_part15_eq_skeleton]; unfold k0_part15_skel
  simp only [Prog.lift, Prog.bind_op, Prog.bind_ret, Prog.pure_eq_ret]
  refine step (wp_crecv m Kb Kd c 11 (by decide) (by decide +kernel) (by rfl) (by rfl)) ?_
  refine step (wp_crecv m Kb Kd c 12 (by decide) (by decide +kernel) (by rfl) (by rfl)) ?_
  refine step (wp_crecv m Kb Kd c 13 (by decide) (by decide +kernel) (by rfl) (by rfl)) ?_
  refine step (wp_crecv m Kb Kd c 14 (by decide) (by decide +kernel) (by rfl) (by rfl)) ?_
  exact endStep c h

theorem part16 {R : sProp (MT nD τ sig Unit (Elt F) ℕ UU ℕ)} {Q : (PUnit) → sProp (MT nD τ sig Unit (Elt F) ℕ UU ℕ)}
    (h : iprop(St m Kb Kd c 32 15 4 15 2 0 0 ∗ R) ⊢ Q ⟨⟩) :
    iprop(St m Kb Kd c 32 15 0 15 2 0 0 ∗ R)
      ⊢ WP c (k0_part16 xM (Memref.isWhole_whole _) rM (Memref.isWhole_whole _) eM (Memref.isWhole_whole _) oM (Memref.isWhole_whole _)
        wM (Memref.isWhole_whole _) cM (Memref.isWhole_whole _) cc0_scratch2 cc0_scratch3 cc0_scratch4 cc0_scratch5 c) Q := by
  rw [k0_part16_eq_skeleton]; unfold k0_part16_skel
  simp only [Prog.lift, Prog.bind_op, Prog.bind_ret, Prog.pure_eq_ret]
  refine step (wp_cswait m Kb Kd c 0 (by decide) (by decide) (by decide +kernel) (by rfl) (by rfl)) ?_
  refine step (wp_cswait m Kb Kd c 1 (by decide) (by decide) (by decide +kernel) (by rfl) (by rfl)) ?_
  refine step (wp_cswait m Kb Kd c 2 (by decide) (by decide) (by decide +kernel) (by rfl) (by rfl)) ?_
  refine step (wp_cswait m Kb Kd c 3 (by decide) (by decide) (by decide +kernel) (by rfl) (by rfl)) ?_
  exact endStep c h

theorem part17 {R : sProp (MT nD τ sig Unit (Elt F) ℕ UU ℕ)} {Q : (PUnit) → sProp (MT nD τ sig Unit (Elt F) ℕ UU ℕ)}
    (h : iprop(St m Kb Kd c 32 15 8 15 2 0 0 ∗ R) ⊢ Q ⟨⟩) :
    iprop(St m Kb Kd c 32 15 4 15 2 0 0 ∗ R)
      ⊢ WP c (k0_part17 xM (Memref.isWhole_whole _) rM (Memref.isWhole_whole _) eM (Memref.isWhole_whole _) oM (Memref.isWhole_whole _)
        wM (Memref.isWhole_whole _) cM (Memref.isWhole_whole _) cc0_scratch2 cc0_scratch3 cc0_scratch4 cc0_scratch5 c) Q := by
  rw [k0_part17_eq_skeleton]; unfold k0_part17_skel
  simp only [Prog.lift, Prog.bind_op, Prog.bind_ret, Prog.pure_eq_ret]
  refine step (wp_cswait m Kb Kd c 4 (by decide) (by decide) (by decide +kernel) (by rfl) (by rfl)) ?_
  refine step (wp_cswait m Kb Kd c 5 (by decide) (by decide) (by decide +kernel) (by rfl) (by rfl)) ?_
  refine step (wp_cswait m Kb Kd c 6 (by decide) (by decide) (by decide +kernel) (by rfl) (by rfl)) ?_
  refine step (wp_cswait m Kb Kd c 7 (by decide) (by decide) (by decide +kernel) (by rfl) (by rfl)) ?_
  exact endStep c h

theorem part18 {R : sProp (MT nD τ sig Unit (Elt F) ℕ UU ℕ)} {Q : (PUnit) → sProp (MT nD τ sig Unit (Elt F) ℕ UU ℕ)}
    (h : iprop(St m Kb Kd c 32 15 13 15 2 0 0 ∗ R) ⊢ Q ⟨⟩) :
    iprop(St m Kb Kd c 32 15 8 15 2 0 0 ∗ R)
      ⊢ WP c (k0_part18 xM (Memref.isWhole_whole _) rM (Memref.isWhole_whole _) eM (Memref.isWhole_whole _) oM (Memref.isWhole_whole _)
        wM (Memref.isWhole_whole _) cM (Memref.isWhole_whole _) cc0_scratch2 cc0_scratch3 cc0_scratch4 cc0_scratch5 c) Q := by
  rw [k0_part18_eq_skeleton]; unfold k0_part18_skel
  simp only [Prog.lift, Prog.bind_op, Prog.bind_ret, Prog.pure_eq_ret]
  refine step (wp_cswait m Kb Kd c 8 (by decide) (by decide) (by decide +kernel) (by rfl) (by rfl)) ?_
  refine step (wp_cswait m Kb Kd c 9 (by decide) (by decide) (by decide +kernel) (by rfl) (by rfl)) ?_
  refine step (wp_cswait m Kb Kd c 10 (by decide) (by decide) (by decide +kernel) (by rfl) (by rfl)) ?_
  refine step (wp_cswait m Kb Kd c 11 (by decide) (by decide) (by decide +kernel) (by rfl) (by rfl)) ?_
  refine step (wp_cswait m Kb Kd c 12 (by decide) (by decide) (by decide +kernel) (by rfl) (by rfl)) ?_
  exact endStep c h

theorem part19 (v2 : BitVec 32) {R : sProp (MT nD τ sig Unit (Elt F) ℕ UU ℕ)} {Q : (Σ' (v544 : IVec S8x128 32), IVec S8x128 32) → sProp (MT nD τ sig Unit (Elt F) ℕ UU ℕ)}
    (h : iprop(St m Kb Kd c 32 15 15 15 2 0 0 ∗ R) ⊢ Q ⟨k0_pay8 v2 (cnt m 0) (cnt m 1), k0_pay9 v2 (cnt m 2)⟩) :
    iprop(St m Kb Kd c 32 15 13 15 2 0 0 ∗ R)
      ⊢ WP c (k0_part19 xM (Memref.isWhole_whole _) rM (Memref.isWhole_whole _) eM (Memref.isWhole_whole _) oM (Memref.isWhole_whole _)
        wM (Memref.isWhole_whole _) cM (Memref.isWhole_whole _) cc0_scratch2 cc0_scratch3 cc0_scratch4 cc0_scratch5 c v2) Q := by
  rw [k0_part19_eq_skeleton]; unfold k0_part19_skel
  simp only [Prog.lift, Prog.bind_op, Prog.bind_ret, Prog.pure_eq_ret]
  refine step (wp_cswait m Kb Kd c 13 (by decide) (by decide) (by decide +kernel) (by rfl) (by rfl)) ?_
  refine step (wp_cswait m Kb Kd c 14 (by decide) (by decide) (by decide +kernel) (by rfl) (by rfl)) ?_
  refine step (wp_cload m Kb Kd c 0 (by rfl)) ?_
  refine step (wp_cload m Kb Kd c 1 (by rfl)) ?_
  refine step (wp_cload m Kb Kd c 2 (by rfl)) ?_
  exact endStep c h

theorem part20 (v2 : BitVec 32) (v544 : IVec S8x128 32) (v549 : IVec S8x128 32) {R : sProp (MT nD τ sig Unit (Elt F) ℕ UU ℕ)} {Q : (Σ' (v580 : IVec S8x128 32), BitVec 1) → sProp (MT nD τ sig Unit (Elt F) ℕ UU ℕ)}
    (h : iprop(St m Kb Kd c 32 15 15 15 2 0 0 ∗ R) ⊢ Q ⟨k0_pay10 v2 v544 v549 (cnt m 3) (cnt m 4) (cnt m 5) (cnt m 6) (cnt m 7), Scalar.cmpi .sgt v2 8#32⟩) :
    iprop(St m Kb Kd c 32 15 15 15 2 0 0 ∗ R)
      ⊢ WP c (k0_part20 xM (Memref.isWhole_whole _) rM (Memref.isWhole_whole _) eM (Memref.isWhole_whole _) oM (Memref.isWhole_whole _)
        wM (Memref.isWhole_whole _) cM (Memref.isWhole_whole _) cc0_scratch2 cc0_scratch3 cc0_scratch4 cc0_scratch5 v2 v544 v549) Q := by
  rw [k0_part20_eq_skeleton]; unfold k0_part20_skel
  simp only [Prog.lift, Prog.bind_op, Prog.bind_ret, Prog.pure_eq_ret]
  refine step (wp_cload m Kb Kd c 3 (by rfl)) ?_
  refine step (wp_cload m Kb Kd c 4 (by rfl)) ?_
  refine step (wp_cload m Kb Kd c 5 (by rfl)) ?_
  refine step (wp_cload m Kb Kd c 6 (by rfl)) ?_
  refine step (wp_cload m Kb Kd c 7 (by rfl)) ?_
  exact endStep c h

theorem part21 (v2 : BitVec 32) (v580 : IVec S8x128 32) (v581 : BitVec 1) {R : sProp (MT nD τ sig Unit (Elt F) ℕ UU ℕ)} {Q : (Σ' (v610 : IVec S8x128 32) (v611 : BitVec 1) (v613 : IVec S8x128 32), IVec S8x128 32) → sProp (MT nD τ sig Unit (Elt F) ℕ UU ℕ)}
    (h : iprop(St m Kb Kd c 32 15 15 15 2 0 0 ∗ R) ⊢ Q ⟨k0_pay11 v2 v580 v581 (cnt m 8) (cnt m 9) (cnt m 10) (cnt m 11) (cnt m 12), Scalar.cmpi .sgt v2 13#32, k0_pay12 (cnt m 13), k0_pay13⟩) :
    iprop(St m Kb Kd c 32 15 15 15 2 0 0 ∗ R)
      ⊢ WP c (k0_part21 xM (Memref.isWhole_whole _) rM (Memref.isWhole_whole _) eM (Memref.isWhole_whole _) oM (Memref.isWhole_whole _)
        wM (Memref.isWhole_whole _) cM (Memref.isWhole_whole _) cc0_scratch2 cc0_scratch3 cc0_scratch4 cc0_scratch5 v2 v580 v581) Q := by
  rw [k0_part21_eq_skeleton]; unfold k0_part21_skel
  simp only [Prog.lift, Prog.bind_op, Prog.bind_ret, Prog.pure_eq_ret]
  refine step (wp_cload m Kb Kd c 8 (by rfl)) ?_
  refine step (wp_cload m Kb Kd c 9 (by rfl)) ?_
  refine step (wp_cload m Kb Kd c 10 (by rfl)) ?_
  refine step (wp_cload m Kb Kd c 11 (by rfl)) ?_
  refine step (wp_cload m Kb Kd c 12 (by rfl)) ?_
  refine step (wp_cload m Kb Kd c 13 (by rfl)) ?_
  exact endStep c h

end Cert.Moe
-- ==== Proof.Rows.lean ====
module

public import proofs.«01_k».proof.Proof.Walk

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! # The rows go round and are used -/

variable (m : (ℓ : Loc nD τ sig) → Buf (Elt F) ℓ) (Kb : Dev nD → ℕ) (Kd : Dev nD × (Fin 4 × Fin 15) → ℕ) (c : Dev nD)

theorem part23 (v5 : BitVec 32) (v7 : BitVec 32) (v648 : BitVec 32) (c0_i32_567 : BitVec 32) {R : sProp (MT nD τ sig Unit (Elt F) ℕ UU ℕ)} {Q : (Σ' (v667 : BitVec 32), BitVec 32) → sProp (MT nD τ sig Unit (Elt F) ℕ UU ℕ)}
    (h : iprop(St m Kb Kd c 32 15 15 15 2 0 2 ∗ R) ⊢ Q ⟨(wd (wrow c (pslot 0))), (wd (wrow c (pslot 1)))⟩) :
    iprop(St m Kb Kd c 32 15 15 15 2 0 0 ∗ R)
      ⊢ WP c (k0_part23 xM (Memref.isWhole_whole _) rM (Memref.isWhole_whole _) eM (Memref.isWhole_whole _) oM (Memref.isWhole_whole _)
        wM (Memref.isWhole_whole _) cM (Memref.isWhole_whole _) cc0_scratch2 cc0_scratch3 cc0_scratch4 cc0_scratch5 c (wd c) v5 v7 v648 c0_i32_567) Q := by
  rw [k0_part23_eq_skeleton]; unfold k0_part23_skel
  simp only [Prog.lift, Prog.bind_op, Prog.bind_ret, Prog.pure_eq_ret]
  refine step (wp_wrecv m Kb Kd c 0 (by decide) (by decide) (by decide +kernel) (by rfl) (by rfl)) ?_
  refine step (wp_wrecv m Kb Kd c 1 (by decide) (by decide) (by decide +kernel) (by rfl) (by rfl)) ?_
  exact endStep c (out_eq₂ h (word_even c 0) (word_odd c 0))

theorem part24 (v5 : BitVec 32) {R : sProp (MT nD τ sig Unit (Elt F) ℕ UU ℕ)} {Q : (PUnit) → sProp (MT nD τ sig Unit (Elt F) ℕ UU ℕ)}
    (h : iprop(St m Kb Kd c 34 15 15 15 4 1 2 ∗ R) ⊢ Q ⟨⟩) :
    iprop(St m Kb Kd c 32 15 15 15 2 0 2 ∗ R)
      ⊢ WP c (k0_part24 xM (Memref.isWhole_whole _) rM (Memref.isWhole_whole _) eM (Memref.isWhole_whole _) oM (Memref.isWhole_whole _)
        wM (Memref.isWhole_whole _) cM (Memref.isWhole_whole _) cc0_scratch2 cc0_scratch3 cc0_scratch4 cc0_scratch5 c v5) Q := by
  rw [k0_part24_eq_skeleton]; unfold k0_part24_skel
  simp only [Prog.lift, Prog.bind_op, Prog.bind_ret, Prog.pure_eq_ret]
  refine step (wp_wsend m Kb Kd c 2 (by decide) (by decide) (by decide) (Fin.ext (k0_dev33_eq c)) (wRow_at (off_even c 0)) (wRow_at (off_even c 0)) (by rfl) (by rfl)) ?_
  refine step (wp_wsend m Kb Kd c 3 (by decide) (by decide) (by decide) (Fin.ext (k0_dev34_eq c)) (wRow_at (off_odd c 0)) (wRow_at (off_odd c 0)) (by rfl) (by rfl)) ?_
  refine step (wp_wswait m Kb Kd c 0 (by decide) (by decide) (by decide +kernel) (by rfl) (by rfl)) ?_
  exact endStep c h

theorem part25 (v5 : BitVec 32) (v7 : BitVec 32) (v70 : IVec S1024x1 32) (keep : IVec S1024x1 1) {R : sProp (MT nD τ sig Unit (Elt F) ℕ UU ℕ)} {Q : (Σ' (v724 : BitVec 32), BitVec 32) → sProp (MT nD τ sig Unit (Elt F) ℕ UU ℕ)}
    (h : iprop(St m Kb Kd c 34 15 15 15 4 2 4 ∗ XO m c v70 keep 2 ∗ R) ⊢ Q ⟨(wd (wrow c (pslot 2))), 1#32⟩) :
    iprop(St m Kb Kd c 34 15 15 15 4 1 2 ∗ XO m c v70 keep 0 ∗ R)
      ⊢ WP c (k0_part25 xM (Memref.isWhole_whole _) rM (Memref.isWhole_whole _) eM (Memref.isWhole_whole _) oM (Memref.isWhole_whole _)
        wM (Memref.isWhole_whole _) cM (Memref.isWhole_whole _) cc0_scratch2 cc0_scratch3 cc0_scratch4 cc0_scratch5 c (wd c) v5 v7 v70 keep (wd (wrow c (pslot 0))) (wd (wrow c (pslot 1)))) Q := by
  rw [k0_part25_eq_skeleton]; unfold k0_part25_skel
  simp only [Prog.lift, Prog.bind_op, Prog.bind_ret, Prog.pure_eq_ret]
  refine step (wp_wswait m Kb Kd c 1 (by decide) (by decide) (by decide +kernel) (by rfl) (by rfl)) ?_
  refine step₂ (wp_acc_row m Kb Kd c v70 keep 0 (by decide) (by decide) (hT := rfl) (loop_off (k0_off8_eq c) (row_even c 0)) (fun _ _ => rfl)) ?_
  refine step₂ (wp_acc_row m Kb Kd c v70 keep 1 (by decide) (by decide) (hT := rfl) (loop_off (k0_off9_eq c) (row_odd c 0)) (fun _ _ => rfl)) ?_
  refine step (wp_wrecv m Kb Kd c 2 (by decide) (by decide) (by decide +kernel) (by rfl) (by rfl)) ?_
  refine step (wp_wrecv m Kb Kd c 3 (by decide) (by decide) (by decide +kernel) (by rfl) (by rfl)) ?_
  exact endStep c (out_eq₂ h (word_even c 1) rfl)

theorem part26 (v5 : BitVec 32) (v7 : BitVec 32) {R : sProp (MT nD τ sig Unit (Elt F) ℕ UU ℕ)} {Q : (BitVec 32) → sProp (MT nD τ sig Unit (Elt F) ℕ UU ℕ)}
    (h : iprop(St m Kb Kd c 36 15 15 15 6 2 4 ∗ R) ⊢ Q (wd (wrow c (pslot 3)))) :
    iprop(St m Kb Kd c 34 15 15 15 4 2 4 ∗ R)
      ⊢ WP c (k0_part26 xM (Memref.isWhole_whole _) rM (Memref.isWhole_whole _) eM (Memref.isWhole_whole _) oM (Memref.isWhole_whole _)
        wM (Memref.isWhole_whole _) cM (Memref.isWhole_whole _) cc0_scratch2 cc0_scratch3 cc0_scratch4 cc0_scratch5 c (wd c) v5 v7 1#32) Q := by
  rw [k0_part26_eq_skeleton]; unfold k0_part26_skel
  simp only [Prog.lift, Prog.bind_op, Prog.bind_ret, Prog.pure_eq_ret]
  refine step (wp_wsend m Kb Kd c 4 (by decide) (by decide) (by decide) (Fin.ext (k0_dev35_eq c)) (wRow_at (off_even c 1)) (wRow_at (off_even c 1)) (by rfl) (by rfl)) ?_
  refine step (wp_wsend m Kb Kd c 5 (by decide) (by decide) (by decide) (Fin.ext (k0_dev36_eq c)) (wRow_at (off_odd c 1)) (wRow_at (off_odd c 1)) (by rfl) (by rfl)) ?_
  exact endStep c (out_eq h (word_odd c 1))

theorem part27 (v5 : BitVec 32) (v7 : BitVec 32) (v70 : IVec S1024x1 32) (keep : IVec S1024x1 1) {R : sProp (MT nD τ sig Unit (Elt F) ℕ UU ℕ)} {Q : (PUnit) → sProp (MT nD τ sig Unit (Elt F) ℕ UU ℕ)}
    (h : iprop(St m Kb Kd c 36 15 15 15 6 4 5 ∗ XO m c v70 keep 4 ∗ R) ⊢ Q ⟨⟩) :
    iprop(St m Kb Kd c 36 15 15 15 6 2 4 ∗ XO m c v70 keep 2 ∗ R)
      ⊢ WP c (k0_part27 xM (Memref.isWhole_whole _) rM (Memref.isWhole_whole _) eM (Memref.isWhole_whole _) oM (Memref.isWhole_whole _)
        wM (Memref.isWhole_whole _) cM (Memref.isWhole_whole _) cc0_scratch2 cc0_scratch3 cc0_scratch4 cc0_scratch5 c v5 v7 v70 keep (wd (wrow c (pslot 2))) (wd (wrow c (pslot 3)))) Q := by
  rw [k0_part27_eq_skeleton]; unfold k0_part27_skel
  simp only [Prog.lift, Prog.bind_op, Prog.bind_ret, Prog.pure_eq_ret]
  refine step (wp_wswait m Kb Kd c 2 (by decide) (by decide) (by decide +kernel) (by rfl) (by rfl)) ?_
  refine step (wp_wswait m Kb Kd c 3 (by decide) (by decide) (by decide +kernel) (by rfl) (by rfl)) ?_
  refine step₂ (wp_acc_row m Kb Kd c v70 keep 2 (by decide) (by decide) (hT := rfl) (loop_off (k0_off10_eq c) (row_even c 1)) (fun _ _ => rfl)) ?_
  refine step₂ (wp_acc_row m Kb Kd c v70 keep 3 (by decide) (by decide) (hT := rfl) (loop_off (k0_off11_eq c) (row_odd c 1)) (fun _ _ => rfl)) ?_
  refine step (wp_wrecv m Kb Kd c 4 (by decide) (by decide) (by decide +kernel) (by rfl) (by rfl)) ?_
  exact endStep c h

theorem part28 (v5 : BitVec 32) (v7 : BitVec 32) {R : sProp (MT nD τ sig Unit (Elt F) ℕ UU ℕ)} {Q : (Σ' (v781 : BitVec 32), BitVec 32) → sProp (MT nD τ sig Unit (Elt F) ℕ UU ℕ)}
    (h : iprop(St m Kb Kd c 37 15 15 15 7 4 6 ∗ R) ⊢ Q ⟨(wd (wrow c (pslot 4))), (wd (wrow c (pslot 5)))⟩) :
    iprop(St m Kb Kd c 36 15 15 15 6 4 5 ∗ R)
      ⊢ WP c (k0_part28 xM (Memref.isWhole_whole _) rM (Memref.isWhole_whole _) eM (Memref.isWhole_whole _) oM (Memref.isWhole_whole _)
        wM (Memref.isWhole_whole _) cM (Memref.isWhole_whole _) cc0_scratch2 cc0_scratch3 cc0_scratch4 cc0_scratch5 c (wd c) v5 v7) Q := by
  rw [k0_part28_eq_skeleton]; unfold k0_part28_skel
  simp only [Prog.lift, Prog.bind_op, Prog.bind_ret, Prog.pure_eq_ret]
  refine step (wp_wrecv m Kb Kd c 5 (by decide) (by decide) (by decide +kernel) (by rfl) (by rfl)) ?_
  refine step (wp_wsend m Kb Kd c 6 (by decide) (by decide) (by decide) (Fin.ext (k0_dev37_eq c)) (wRow_at (off_even c 2)) (wRow_at (off_even c 2)) (by rfl) (by rfl)) ?_
  exact endStep c (out_eq₂ h (word_even c 2) (word_odd c 2))

theorem part29 (v7 : BitVec 32) (v70 : IVec S1024x1 32) (keep : IVec S1024x1 1) {R : sProp (MT nD τ sig Unit (Elt F) ℕ UU ℕ)} {Q : (PUnit) → sProp (MT nD τ sig Unit (Elt F) ℕ UU ℕ)}
    (h : iprop(St m Kb Kd c 38 15 15 15 8 6 6 ∗ XO m c v70 keep 6 ∗ R) ⊢ Q ⟨⟩) :
    iprop(St m Kb Kd c 37 15 15 15 7 4 6 ∗ XO m c v70 keep 4 ∗ R)
      ⊢ WP c (k0_part29 xM (Memref.isWhole_whole _) rM (Memref.isWhole_whole _) eM (Memref.isWhole_whole _) oM (Memref.isWhole_whole _)
        wM (Memref.isWhole_whole _) cM (Memref.isWhole_whole _) cc0_scratch2 cc0_scratch3 cc0_scratch4 cc0_scratch5 c v7 v70 keep (wd (wrow c (pslot 4))) (wd (wrow c (pslot 5)))) Q := by
  rw [k0_part29_eq_skeleton]; unfold k0_part29_skel
  simp only [Prog.lift, Prog.bind_op, Prog.bind_ret, Prog.pure_eq_ret]
  refine step (wp_wsend m Kb Kd c 7 (by decide) (by decide) (by decide) (Fin.ext (k0_dev38_eq c)) (wRow_at (off_odd c 2)) (wRow_at (off_odd c 2)) (by rfl) (by rfl)) ?_
  refine step (wp_wswait m Kb Kd c 4 (by decide) (by decide) (by decide +kernel) (by rfl) (by rfl)) ?_
  refine step (wp_wswait m Kb Kd c 5 (by decide) (by decide) (by decide +kernel) (by rfl) (by rfl)) ?_
  refine step₂ (wp_acc_row m Kb Kd c v70 keep 4 (by decide) (by decide) (hT := rfl) (loop_off (k0_off12_eq c) (row_even c 2)) (fun _ _ => rfl)) ?_
  refine step₂ (wp_acc_row m Kb Kd c v70 keep 5 (by decide) (by decide) (hT := rfl) (loop_off (k0_off13_eq c) (row_odd c 2)) (fun _ _ => rfl)) ?_
  exact endStep c h

theorem part30 (v5 : BitVec 32) (v7 : BitVec 32) {R : sProp (MT nD τ sig Unit (Elt F) ℕ UU ℕ)} {Q : (Σ' (v838 : BitVec 32), BitVec 32) → sProp (MT nD τ sig Unit (Elt F) ℕ UU ℕ)}
    (h : iprop(St m Kb Kd c 38 15 15 15 8 6 8 ∗ R) ⊢ Q ⟨(wd (wrow c (pslot 6))), (wd (wrow c (pslot 7)))⟩) :
    iprop(St m Kb Kd c 38 15 15 15 8 6 6 ∗ R)
      ⊢ WP c (k0_part30 xM (Memref.isWhole_whole _) rM (Memref.isWhole_whole _) eM (Memref.isWhole_whole _) oM (Memref.isWhole_whole _)
        wM (Memref.isWhole_whole _) cM (Memref.isWhole_whole _) cc0_scratch2 cc0_scratch3 cc0_scratch4 cc0_scratch5 c (wd c) v5 v7) Q := by
  rw [k0_part30_eq_skeleton]; unfold k0_part30_skel
  simp only [Prog.lift, Prog.bind_op, Prog.bind_ret, Prog.pure_eq_ret]
  refine step (wp_wrecv m Kb Kd c 6 (by decide) (by decide) (by decide +kernel) (by rfl) (by rfl)) ?_
  refine step (wp_wrecv m Kb Kd c 7 (by decide) (by decide) (by decide +kernel) (by rfl) (by rfl)) ?_
  exact endStep c (out_eq₂ h (word_even c 3) (word_odd c 3))

theorem part31 (v5 : BitVec 32) (v70 : IVec S1024x1 32) (keep : IVec S1024x1 1) {R : sProp (MT nD τ sig Unit (Elt F) ℕ UU ℕ)} {Q : (PUnit) → sProp (MT nD τ sig Unit (Elt F) ℕ UU ℕ)}
    (h : iprop(St m Kb Kd c 40 15 15 15 10 8 8 ∗ XO m c v70 keep 7 ∗ R) ⊢ Q ⟨⟩) :
    iprop(St m Kb Kd c 38 15 15 15 8 6 8 ∗ XO m c v70 keep 6 ∗ R)
      ⊢ WP c (k0_part31 xM (Memref.isWhole_whole _) rM (Memref.isWhole_whole _) eM (Memref.isWhole_whole _) oM (Memref.isWhole_whole _)
        wM (Memref.isWhole_whole _) cM (Memref.isWhole_whole _) cc0_scratch2 cc0_scratch3 cc0_scratch4 cc0_scratch5 c v5 v70 keep (wd (wrow c (pslot 6)))) Q := by
  rw [k0_part31_eq_skeleton]; unfold k0_part31_skel
  simp only [Prog.lift, Prog.bind_op, Prog.bind_ret, Prog.pure_eq_ret]
  refine step (wp_wsend m Kb Kd c 8 (by decide) (by decide) (by decide) (Fin.ext (k0_dev39_eq c)) (wRow_at (off_even c 3)) (wRow_at (off_even c 3)) (by rfl) (by rfl)) ?_
  refine step (wp_wsend m Kb Kd c 9 (by decide) (by decide) (by decide) (Fin.ext (k0_dev40_eq c)) (wRow_at (off_odd c 3)) (wRow_at (off_odd c 3)) (by rfl) (by rfl)) ?_
  refine step (wp_wswait m Kb Kd c 6 (by decide) (by decide) (by decide +kernel) (by rfl) (by rfl)) ?_
  refine step (wp_wswait m Kb Kd c 7 (by decide) (by decide) (by decide +kernel) (by rfl) (by rfl)) ?_
  refine step₂ (wp_acc_row m Kb Kd c v70 keep 6 (by decide) (by decide) (hT := rfl) (loop_off (k0_off14_eq c) (row_even c 3)) (fun _ _ => rfl)) ?_
  exact endStep c h

theorem part32 (v5 : BitVec 32) (v7 : BitVec 32) (v70 : IVec S1024x1 32) (keep : IVec S1024x1 1) {R : sProp (MT nD τ sig Unit (Elt F) ℕ UU ℕ)} {Q : (Σ' (v895 : BitVec 32), BitVec 32) → sProp (MT nD τ sig Unit (Elt F) ℕ UU ℕ)}
    (h : iprop(St m Kb Kd c 40 15 15 15 10 8 10 ∗ XO m c v70 keep 8 ∗ R) ⊢ Q ⟨(wd (wrow c (pslot 8))), (wd (wrow c (pslot 9)))⟩) :
    iprop(St m Kb Kd c 40 15 15 15 10 8 8 ∗ XO m c v70 keep 7 ∗ R)
      ⊢ WP c (k0_part32 xM (Memref.isWhole_whole _) rM (Memref.isWhole_whole _) eM (Memref.isWhole_whole _) oM (Memref.isWhole_whole _)
        wM (Memref.isWhole_whole _) cM (Memref.isWhole_whole _) cc0_scratch2 cc0_scratch3 cc0_scratch4 cc0_scratch5 c (wd c) v5 v7 v70 keep (wd (wrow c (pslot 7)))) Q := by
  rw [k0_part32_eq_skeleton]; unfold k0_part32_skel
  simp only [Prog.lift, Prog.bind_op, Prog.bind_ret, Prog.pure_eq_ret]
  refine step₂ (wp_acc_row m Kb Kd c v70 keep 7 (by decide) (by decide) (hT := rfl) (loop_off (k0_off15_eq c) (row_odd c 3)) (fun _ _ => rfl)) ?_
  refine step (wp_wrecv m Kb Kd c 8 (by decide) (by decide) (by decide +kernel) (by rfl) (by rfl)) ?_
  refine step (wp_wrecv m Kb Kd c 9 (by decide) (by decide) (by decide +kernel) (by rfl) (by rfl)) ?_
  exact endStep c (out_eq₂ h (word_even c 4) (word_odd c 4))

theorem part33 (v5 : BitVec 32) (v7 : BitVec 32) {R : sProp (MT nD τ sig Unit (Elt F) ℕ UU ℕ)} {Q : (PUnit) → sProp (MT nD τ sig Unit (Elt F) ℕ UU ℕ)}
    (h : iprop(St m Kb Kd c 42 15 15 15 12 9 10 ∗ R) ⊢ Q ⟨⟩) :
    iprop(St m Kb Kd c 40 15 15 15 10 8 10 ∗ R)
      ⊢ WP c (k0_part33 xM (Memref.isWhole_whole _) rM (Memref.isWhole_whole _) eM (Memref.isWhole_whole _) oM (Memref.isWhole_whole _)
        wM (Memref.isWhole_whole _) cM (Memref.isWhole_whole _) cc0_scratch2 cc0_scratch3 cc0_scratch4 cc0_scratch5 c v5 v7) Q := by
  rw [k0_part33_eq_skeleton]; unfold k0_part33_skel
  simp only [Prog.lift, Prog.bind_op, Prog.bind_ret, Prog.pure_eq_ret]
  refine step (wp_wsend m Kb Kd c 10 (by decide) (by decide) (by decide) (Fin.ext (k0_dev41_eq c)) (wRow_at (off_even c 4)) (wRow_at (off_even c 4)) (by rfl) (by rfl)) ?_
  refine step (wp_wsend m Kb Kd c 11 (by decide) (by decide) (by decide) (Fin.ext (k0_dev42_eq c)) (wRow_at (off_odd c 4)) (wRow_at (off_odd c 4)) (by rfl) (by rfl)) ?_
  refine step (wp_wswait m Kb Kd c 8 (by decide) (by decide) (by decide +kernel) (by rfl) (by rfl)) ?_
  exact endStep c h

theorem part34 (v5 : BitVec 32) (v7 : BitVec 32) (v70 : IVec S1024x1 32) (keep : IVec S1024x1 1) {R : sProp (MT nD τ sig Unit (Elt F) ℕ UU ℕ)} {Q : (PUnit) → sProp (MT nD τ sig Unit (Elt F) ℕ UU ℕ)}
    (h : iprop(St m Kb Kd c 42 15 15 15 12 10 11 ∗ XO m c v70 keep 10 ∗ R) ⊢ Q ⟨⟩) :
    iprop(St m Kb Kd c 42 15 15 15 12 9 10 ∗ XO m c v70 keep 8 ∗ R)
      ⊢ WP c (k0_part34 xM (Memref.isWhole_whole _) rM (Memref.isWhole_whole _) eM (Memref.isWhole_whole _) oM (Memref.isWhole_whole _)
        wM (Memref.isWhole_whole _) cM (Memref.isWhole_whole _) cc0_scratch2 cc0_scratch3 cc0_scratch4 cc0_scratch5 c v5 v7 v70 keep (wd (wrow c (pslot 8))) (wd (wrow c (pslot 9)))) Q := by
  rw [k0_part34_eq_skeleton]; unfold k0_part34_skel
  simp only [Prog.lift, Prog.bind_op, Prog.bind_ret, Prog.pure_eq_ret]
  refine step (wp_wswait m Kb Kd c 9 (by decide) (by decide) (by decide +kernel) (by rfl) (by rfl)) ?_
  refine step₂ (wp_acc_row m Kb Kd c v70 keep 8 (by decide) (by decide) (hT := rfl) (loop_off (k0_off16_eq c) (row_even c 4)) (fun _ _ => rfl)) ?_
  refine step₂ (wp_acc_row m Kb Kd c v70 keep 9 (by decide) (by decide) (hT := rfl) (loop_off (k0_off17_eq c) (row_odd c 4)) (fun _ _ => rfl)) ?_
  refine step (wp_wrecv m Kb Kd c 10 (by decide) (by decide) (by decide +kernel) (by rfl) (by rfl)) ?_
  exact endStep c h

theorem part35 (v5 : BitVec 32) (v7 : BitVec 32) {R : sProp (MT nD τ sig Unit (Elt F) ℕ UU ℕ)} {Q : (Σ' (v952 : BitVec 32), BitVec 32) → sProp (MT nD τ sig Unit (Elt F) ℕ UU ℕ)}
    (h : iprop(St m Kb Kd c 44 15 15 15 14 10 12 ∗ R) ⊢ Q ⟨(wd (wrow c (pslot 10))), (wd (wrow c (pslot 11)))⟩) :
    iprop(St m Kb Kd c 42 15 15 15 12 10 11 ∗ R)
      ⊢ WP c (k0_part35 xM (Memref.isWhole_whole _) rM (Memref.isWhole_whole _) eM (Memref.isWhole_whole _) oM (Memref.isWhole_whole _)
        wM (Memref.isWhole_whole _) cM (Memref.isWhole_whole _) cc0_scratch2 cc0_scratch3 cc0_scratch4 cc0_scratch5 c (wd c) v5 v7) Q := by
  rw [k0_part35_eq_skeleton]; unfold k0_part35_skel
  simp only [Prog.lift, Prog.bind_op, Prog.bind_ret, Prog.pure_eq_ret]
  refine step (wp_wrecv m Kb Kd c 11 (by decide) (by decide) (by decide +kernel) (by rfl) (by rfl)) ?_
  refine step (wp_wsend m Kb Kd c 12 (by decide) (by decide) (by decide) (Fin.ext (k0_dev43_eq c)) (wRow_at (off_even c 5)) (wRow_at (off_even c 5)) (by rfl) (by rfl)) ?_
  refine step (wp_wsend m Kb Kd c 13 (by decide) (by decide) (by decide) (Fin.ext (k0_dev44_eq c)) (wRow_at (off_odd c 5)) (wRow_at (off_odd c 5)) (by rfl) (by rfl)) ?_
  exact endStep c (out_eq₂ h (word_even c 5) (word_odd c 5))

theorem part36 (v7 : BitVec 32) (v70 : IVec S1024x1 32) (keep : IVec S1024x1 1) {R : sProp (MT nD τ sig Unit (Elt F) ℕ UU ℕ)} {Q : (PUnit) → sProp (MT nD τ sig Unit (Elt F) ℕ UU ℕ)}
    (h : iprop(St m Kb Kd c 44 15 15 15 14 12 12 ∗ XO m c v70 keep 12 ∗ R) ⊢ Q ⟨⟩) :
    iprop(St m Kb Kd c 44 15 15 15 14 10 12 ∗ XO m c v70 keep 10 ∗ R)
      ⊢ WP c (k0_part36 xM (Memref.isWhole_whole _) rM (Memref.isWhole_whole _) eM (Memref.isWhole_whole _) oM (Memref.isWhole_whole _)
        wM (Memref.isWhole_whole _) cM (Memref.isWhole_whole _) cc0_scratch2 cc0_scratch3 cc0_scratch4 cc0_scratch5 c v7 v70 keep (wd (wrow c (pslot 10))) (wd (wrow c (pslot 11)))) Q := by
  rw [k0_part36_eq_skeleton]; unfold k0_part36_skel
  simp only [Prog.lift, Prog.bind_op, Prog.bind_ret, Prog.pure_eq_ret]
  refine step (wp_wswait m Kb Kd c 10 (by decide) (by decide) (by decide +kernel) (by rfl) (by rfl)) ?_
  refine step (wp_wswait m Kb Kd c 11 (by decide) (by decide) (by decide +kernel) (by rfl) (by rfl)) ?_
  refine step₂ (wp_acc_row m Kb Kd c v70 keep 10 (by decide) (by decide) (hT := rfl) (loop_off (k0_off18_eq c) (row_even c 5)) (fun _ _ => rfl)) ?_
  refine step₂ (wp_acc_row m Kb Kd c v70 keep 11 (by decide) (by decide) (hT := rfl) (loop_off (k0_off19_eq c) (row_odd c 5)) (fun _ _ => rfl)) ?_
  exact endStep c h

theorem part37 (v5 : BitVec 32) (v7 : BitVec 32) {R : sProp (MT nD τ sig Unit (Elt F) ℕ UU ℕ)} {Q : (Σ' (v1009 : BitVec 32), BitVec 32) → sProp (MT nD τ sig Unit (Elt F) ℕ UU ℕ)}
    (h : iprop(St m Kb Kd c 45 15 15 15 15 12 14 ∗ R) ⊢ Q ⟨(wd (wrow c (pslot 12))), (wd (wrow c (pslot 13)))⟩) :
    iprop(St m Kb Kd c 44 15 15 15 14 12 12 ∗ R)
      ⊢ WP c (k0_part37 xM (Memref.isWhole_whole _) rM (Memref.isWhole_whole _) eM (Memref.isWhole_whole _) oM (Memref.isWhole_whole _)
        wM (Memref.isWhole_whole _) cM (Memref.isWhole_whole _) cc0_scratch2 cc0_scratch3 cc0_scratch4 cc0_scratch5 c (wd c) v5 v7) Q := by
  rw [k0_part37_eq_skeleton]; unfold k0_part37_skel
  simp only [Prog.lift, Prog.bind_op, Prog.bind_ret, Prog.pure_eq_ret]
  refine step (wp_wrecv m Kb Kd c 12 (by decide) (by decide) (by decide +kernel) (by rfl) (by rfl)) ?_
  refine step (wp_wrecv m Kb Kd c 13 (by decide) (by decide) (by decide +kernel) (by rfl) (by rfl)) ?_
  refine step (wp_wsend m Kb Kd c 14 (by decide) (by decide) (by decide) (Fin.ext (k0_dev45_eq c)) (wRow_at (off_even c 6)) (wRow_at (off_even c 6)) (by rfl) (by rfl)) ?_
  exact endStep c (out_eq₂ h (word_even c 6) (word_odd c 6))

theorem part38 (v7 : BitVec 32) (v70 : IVec S1024x1 32) (keep : IVec S1024x1 1) {R : sProp (MT nD τ sig Unit (Elt F) ℕ UU ℕ)} {Q : (BitVec 32) → sProp (MT nD τ sig Unit (Elt F) ℕ UU ℕ)}
    (h : iprop(St m Kb Kd c 45 15 15 15 15 14 15 ∗ XO m c v70 keep 14 ∗ R) ⊢ Q 7#32) :
    iprop(St m Kb Kd c 45 15 15 15 15 12 14 ∗ XO m c v70 keep 12 ∗ R)
      ⊢ WP c (k0_part38 xM (Memref.isWhole_whole _) rM (Memref.isWhole_whole _) eM (Memref.isWhole_whole _) oM (Memref.isWhole_whole _)
        wM (Memref.isWhole_whole _) cM (Memref.isWhole_whole _) cc0_scratch2 cc0_scratch3 cc0_scratch4 cc0_scratch5 c v7 v70 keep (wd (wrow c (pslot 12))) (wd (wrow c (pslot 13)))) Q := by
  rw [k0_part38_eq_skeleton]; unfold k0_part38_skel
  simp only [Prog.lift, Prog.bind_op, Prog.bind_ret, Prog.pure_eq_ret]
  refine step (wp_wswait m Kb Kd c 12 (by decide) (by decide) (by decide +kernel) (by rfl) (by rfl)) ?_
  refine step (wp_wswait m Kb Kd c 13 (by decide) (by decide) (by decide +kernel) (by rfl) (by rfl)) ?_
  refine step₂ (wp_acc_row m Kb Kd c v70 keep 12 (by decide) (by decide) (hT := rfl) (loop_off (k0_off20_eq c) (row_even c 6)) (fun _ _ => rfl)) ?_
  refine step₂ (wp_acc_row m Kb Kd c v70 keep 13 (by decide) (by decide) (hT := rfl) (loop_off (k0_off21_eq c) (row_odd c 6)) (fun _ _ => rfl)) ?_
  refine step (wp_wrecv m Kb Kd c 14 (by decide) (by decide) (by decide +kernel) (by rfl) (by rfl)) ?_
  exact endStep c h

end Cert.Moe
-- ==== Proof.Body.lean ====
module

public import proofs.«01_k».proof.Proof.Start
public import proofs.«01_k».proof.Proof.Counts
public import proofs.«01_k».proof.Proof.Rows

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! # The whole body -/

variable (m : (ℓ : Loc nD τ sig) → Buf (Elt F) ℓ) (Kb : Dev nD → ℕ) (Kd : Dev nD × (Fin 4 × Fin 15) → ℕ) (c : Dev nD)
variable {R : sProp (MT nD τ sig Unit (Elt F) ℕ UU ℕ)}

/-! ## The words and the mask the body computes -/

/-- The expert chosen by each of the device's tokens, as a column. -/
abbrev tgt : IVec S1024x1 32 := k0_pay2 (rstg m c)
abbrev hot : FVec F S1024x64 .bf16 := k0_pay4 (k0_pay3 (rstg m c))
abbrev pre3 : IVec S8x128 32 := k0_pay10 (wd c) (k0_pay8 (wd c) (cnt m 0) (cnt m 1)) (k0_pay9 (wd c) (cnt m 2)) (cnt m 3) (cnt m 4) (cnt m 5) (cnt m 6) (cnt m 7)
abbrev pre8 : IVec S8x128 32 := k0_pay11 (wd c) (pre3 m c) (Scalar.cmpi .sgt (wd c) 8#32) (cnt m 8) (cnt m 9) (cnt m 10) (cnt m 11) (cnt m 12)
/-- The tokens kept. -/
abbrev keepv : IVec S1024x1 1 :=
  k0_pay14 (wd c) (hot m c) (k0_pay7 (hot m c)) (pre8 m c) (Scalar.cmpi .sgt (wd c) 13#32) (k0_pay12 (cnt m 13)) k0_pay13 (cnt m 14) (cnt m 15)

theorem wp_oinit {hl : oM.view.LoadsAt oR.toLoadRect} {hx : (oM.access oR).Stores Finset.univ} {hm : (Finset.univ : Finset oR.shape.Idx) = Finset.univ ∨ ∀ a, oR.stride a = 1}
    (v : Vec F S1024x512 .f32) {α : Type} {k : PUnit → Prog (TpuEff nD τ sig (Elt F) Λ₀ .tc) α} {Q : α → sProp (MT nD τ sig Unit (Elt F) ℕ UU ℕ)} :
    iprop(∃ f, oPts (F := F) c f) ⊢ iprop((oPts c v -∗ WP c (k ⟨⟩) Q)
      -∗ WP c (.op (.load oM oR.toLoadRect hl) fun _ => .op (.store oM oR v Finset.univ hx hm) k) Q) := by
  iintro ⟨%f, Ho⟩ Hk
  iapply (wp_load 𝒱₀ (c : Thread nD τ) none Set.univ (m := oM) (Finset.subset_univ _)) $$ Ho; iintro Ho
  iapply (wp_store 𝒱₀ (c : Thread nD τ) none Set.univ (m := oM) (r := oR) (Mk := Finset.univ) (Finset.subset_univ _)) $$ Ho; iintro Ho
  rw [show (oM.access oR).write (Elt F) f v Finset.univ = v from Memref.write_access_unit_zero_univ (Elt F) cc0_stg3_0 hz2 _ f v]
  iapply Hk; iexact Ho

theorem step₃ {P X Y P' X' Y' S G H : sProp (MT nD τ sig Unit (Elt F) ℕ UU ℕ)} (h : iprop(P ∗ X ∗ Y) ⊢ iprop((iprop(P' ∗ X' ∗ Y') -∗ G) -∗ H))
    (hk : iprop(P' ∗ X' ∗ Y' ∗ S) ⊢ G) : iprop(P ∗ X ∗ Y ∗ S) ⊢ H := by
  iintro ⟨HP, HX, HY, HS⟩
  iapply h $$ [HP HX HY]
  · isplitl [HP]; · iexact HP
    isplitl [HX] <;> iassumption
  iintro ⟨HP, HX, HY⟩
  iapply hk
  isplitl [HP]; · iexact HP
  isplitl [HX]; · iexact HX
  isplitl [HY] <;> iassumption

theorem part22 (v7 : BitVec 32) {Q : _ → sProp (MT nD τ sig Unit (Elt F) ℕ UU ℕ)}
    (h : ∀ x y, iprop(St m Kb Kd c 32 15 15 15 2 0 0 ∗ XO m c (tgt m c) (keepv m c) 0 ∗ R) ⊢ Q ⟨keepv m c, x, y⟩) :
    iprop(St m Kb Kd c 32 15 15 15 2 0 0 ∗ xPts m c ∗ (∃ f, oPts (F := F) c f) ∗ R)
      ⊢ WP c (k0_part22 xM (Memref.isWhole_whole _) rM (Memref.isWhole_whole _) eM (Memref.isWhole_whole _) oM (Memref.isWhole_whole _)
        wM (Memref.isWhole_whole _) cM (Memref.isWhole_whole _) cc0_scratch2 cc0_scratch3 cc0_scratch4 cc0_scratch5 c (wd c) v7 (tgt m c) (hot m c) (k0_pay7 (hot m c)) (pre8 m c) (Scalar.cmpi .sgt (wd c) 13#32) (k0_pay12 (cnt m 13)) k0_pay13) Q := by
  rw [k0_part22_eq_skeleton]; unfold k0_part22_skel
  simp only [Prog.lift, Prog.bind_op, Prog.bind_ret, Prog.pure_eq_ret]
  refine step (wp_cload m Kb Kd c 14 (by rfl)) ?_
  refine step (wp_cload m Kb Kd c 15 (by rfl)) ?_
  refine swap₂ (step (wp_oinit c k0_pay15) ?_)
  refine swap₃ ?_
  refine swap₁ ?_
  refine step₃ (wp_own_acc m Kb Kd c k0_t1_ok rfl (k0_t1_body xM (Memref.isWhole_whole _) rM (Memref.isWhole_whole _) eM (Memref.isWhole_whole _) oM (Memref.isWhole_whole _)
        wM (Memref.isWhole_whole _) cM (Memref.isWhole_whole _) cc0_scratch2 cc0_scratch3 cc0_scratch4 cc0_scratch5 c (wd c) v7 (tgt m c) (hot m c) (k0_pay7 (hot m c)) (pre8 m c) (Scalar.cmpi .sgt (wd c) 13#32) (k0_pay12 (cnt m 13)) k0_pay13 (cnt m 14) (cnt m 15)) (k0_off5 c) (k0_off5_inb c) (tgt m c) (keepv m c) (wd c) k0_pay15 (k0_off5_eq c) (fun _ _ => rfl)) ?_
  refine endStep c (.trans ?_ (h _ _))
  iintro ⟨HS, Hx, Ho, HR⟩
  isplitl [HS]; · iexact HS
  isplitl [Hx Ho]
  · unfold XO; isplitl [Hx]; · iexact Hx
    iexact Ho
  iexact HR

/-! ## The parts in order -/

/-- What the body starts from. -/
def Start : sProp 𝕄 :=
  iprop(Sg m Kb Kd c 0 ∗ (cred (tallyAt (barCell c) () 15) ∗ atPos ER (barCell c) 0 ∅ 0) ∗ rPts m c ∗ ePts m c
    ∗ (∃ f, wPts (F := F) c c fullShare f) ∗ (∃ f, cPts (F := F) c c fullShare f) ∗ Tk (F := F) c ∗ xPts m c ∗ (∃ f, oPts (F := F) c f))

/-- What the barrier leaves. -/
def After3 : sProp 𝕄 :=
  iprop(records m Kb Kd ∗ ow (F := F) c 15 ∗ atPos ER (barCell c) 1 ∅ 0
        ∗ bigSep Finset.univ fun d : Fin 15 => barPay (F := F) (rot c (15 - d.val)) d)

theorem before4 {A B C D T X O G : sProp (MT nD τ sig Unit (Elt F) ℕ UU ℕ)} (h : iprop(B ∗ C ∗ D ∗ R ∗ A ∗ T ∗ X ∗ O) ⊢ G) :
    iprop(R ∗ A ∗ B ∗ C ∗ D ∗ T ∗ X ∗ O) ⊢ G := by
  iintro ⟨HR, HA, HB, HC, HD, HT⟩
  iapply h
  isplitl [HB]; · iexact HB
  isplitl [HC]; · iexact HC
  isplitl [HD]; · iexact HD
  isplitl [HR]; · iexact HR
  isplitl [HA] <;> iassumption

/-- What is left over. -/
def Rest : sProp 𝕄 := iprop(rPts m c ∗ ePts m c ∗ atPos ER (barCell c) 1 ∅ 0)

theorem after4 {G : sProp (MT nD τ sig Unit (Elt F) ℕ UU ℕ)} (h : iprop(St m Kb Kd c 15 0 0 0 0 0 0 ∗ xPts m c ∗ (∃ f, oPts (F := F) c f) ∗ Rest m c) ⊢ G) :
    iprop(ePts m c ∗ wPts c c fullShare (wAll m) ∗ cPts c c fullShare (cAll m) ∗ After3 m Kb Kd c ∗ rPts m c ∗ Tk (F := F) c ∗ xPts m c ∗ (∃ f, oPts (F := F) c f)) ⊢ G := by
  unfold After3
  iintro ⟨He, Hw, Hc, ⟨HR, HO, HB, HP⟩, Hr, HT, Hx, Ho⟩
  ihave HP := (tables_in (F := F) c) $$ HP
  iapply h
  isplitl [Hw Hc HR HO HP HT]
  · iapply (settle m Kb Kd c)
    isplitl [HR]; · iexact HR
    isplitl [HO]; · iexact HO
    isplitl [Hw]; · iexact Hw
    isplitl [Hc]; · iexact Hc
    isplitl [HP] <;> iassumption
  isplitl [Hx]; · iexact Hx
  isplitl [Ho]; · iexact Ho
  unfold Rest
  isplitl [Hr]; · iexact Hr
  isplitl [He] <;> iassumption

theorem part39 {Q : _ → sProp (MT nD τ sig Unit (Elt F) ℕ UU ℕ)}
    (h : iprop(St m Kb Kd c 45 15 15 15 15 14 15 ∗ XO m c (tgt m c) (keepv m c) 14 ∗ Rest m c) ⊢ Q ⟨c, tgt m c, keepv m c, wd (wrow c (pslot 14))⟩) :
    Start m Kb Kd c
      ⊢ WP c (k0_part39 xM (Memref.isWhole_whole _) rM (Memref.isWhole_whole _) eM (Memref.isWhole_whole _) oM (Memref.isWhole_whole _)
        wM (Memref.isWhole_whole _) cM (Memref.isWhole_whole _) cc0_scratch2 cc0_scratch3 cc0_scratch4 cc0_scratch5) Q := by
  rw [k0_part39_eq_skeleton]; unfold k0_part39_skel Start
  refine bindStep c ?_
  refine part1 m Kb Kd c ?_
  intro v5 v7 v25
  refine bindStep c ?_
  refine part2 m Kb Kd c _ _ _ ?_
  intro v49
  refine bindStep c ?_
  refine part3 m Kb Kd c _ _ _ ?_
  refine before4 (bindStep c ?_)
  refine part4 m c _ ?_
  intro v102
  refine after4 m Kb Kd c ?_
  refine bindStep c ?_
  refine part5 m Kb Kd c _ ?_
  intro _
  refine bindStep c ?_
  refine part6 m Kb Kd c _ _ _ ?_
  intro _
  refine bindStep c ?_
  refine part7 m Kb Kd c _ ?_
  intro _
  refine bindStep c ?_
  refine part8 m Kb Kd c _ _ ?_
  intro _
  refine bindStep c ?_
  refine part9 m Kb Kd c _ ?_
  intro _
  refine bindStep c ?_
  refine part10 m Kb Kd c _ _ ?_
  intro _
  refine bindStep c ?_
  refine part11 m Kb Kd c _ _ _ ?_
  refine bindStep c ?_
  refine part12 m Kb Kd c _ _ _ _ ?_
  refine bindStep c ?_
  refine part13 m Kb Kd c _ _ _ ?_
  intro _
  refine bindStep c ?_
  refine part14 m Kb Kd c _ _ _ _ _ ?_
  refine bindStep c ?_
  refine part15 m Kb Kd c _ _ _ ?_
  refine bindStep c ?_
  refine part16 m Kb Kd c ?_
  refine bindStep c ?_
  refine part17 m Kb Kd c ?_
  refine bindStep c ?_
  refine part18 m Kb Kd c ?_
  refine bindStep c ?_
  refine part19 m Kb Kd c _ ?_
  refine bindStep c ?_
  refine part20 m Kb Kd c _ _ _ ?_
  refine bindStep c ?_
  refine part21 m Kb Kd c _ _ _ ?_
  refine bindStep c ?_
  refine part22 m Kb Kd c _ ?_
  intro v648 z
  refine bindStep c ?_
  refine part23 m Kb Kd c _ _ _ _ ?_
  refine bindStep c ?_
  refine part24 m Kb Kd c _ ?_
  refine bindStep c ?_
  refine part25 m Kb Kd c _ _ _ _ ?_
  refine bindStep c ?_
  refine part26 m Kb Kd c _ _ ?_
  refine bindStep c ?_
  refine part27 m Kb Kd c _ _ _ _ ?_
  refine bindStep c ?_
  refine part28 m Kb Kd c _ _ ?_
  refine bindStep c ?_
  refine part29 m Kb Kd c _ _ _ ?_
  refine bindStep c ?_
  refine part30 m Kb Kd c _ _ ?_
  refine bindStep c ?_
  refine part31 m Kb Kd c _ _ _ ?_
  refine bindStep c ?_
  refine part32 m Kb Kd c _ _ _ _ ?_
  refine bindStep c ?_
  refine part33 m Kb Kd c _ _ ?_
  refine bindStep c ?_
  refine part34 m Kb Kd c _ _ _ _ ?_
  refine bindStep c ?_
  refine part35 m Kb Kd c _ _ ?_
  refine bindStep c ?_
  refine part36 m Kb Kd c _ _ _ ?_
  refine bindStep c ?_
  refine part37 m Kb Kd c _ _ ?_
  refine bindStep c ?_
  refine part38 m Kb Kd c _ _ _ ?_
  exact endStep c (h.trans (Entails.of_eq (congrArg (fun w => Q ⟨c, tgt m c, keepv m c, w⟩) (word_even c 7).symm)))

/-- The run of the body. -/
theorem body_run {Q : PUnit → sProp (MT nD τ sig Unit (Elt F) ℕ UU ℕ)}
    (h : iprop(St m Kb Kd c 45 15 15 15 15 15 15 ∗ XO m c (tgt m c) (keepv m c) 15 ∗ Rest m c) ⊢ Q ⟨⟩) :
    Start m Kb Kd c
      ⊢ WP c (cc0_body xM (Memref.isWhole_whole _) rM (Memref.isWhole_whole _) eM (Memref.isWhole_whole _) oM (Memref.isWhole_whole _)
        wM (Memref.isWhole_whole _) cM (Memref.isWhole_whole _) cc0_scratch2 cc0_scratch3 cc0_scratch4 cc0_scratch5) Q := by
  rw [cc0_body_eq_skeleton]; unfold cc0_body_skel
  refine bindStep c ?_
  refine part39 m Kb Kd c ?_
  simp only [Prog.lift, Prog.bind_op, Prog.bind_ret, Prog.pure_eq_ret]
  refine step (wp_wswait m Kb Kd c 14 (by decide) (by decide) (by decide +kernel) (by rfl) (by rfl)) ?_
  refine step₂ (wp_acc_row m Kb Kd c (tgt m c) (keepv m c) 14 (by decide) (by decide) (hT := rfl) (loop_off (k0_off22_eq c) (row_even c 7)) (fun _ _ => rfl)) ?_
  exact endStep c h

end Cert.Moe
-- ==== Proof.Exit.lean ====
module

public import proofs.«01_k».proof.Proof.Start

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! # From the last wait to the end -/

section General
variable {M : Type} [URA M]

/-- The member two further on. -/
def plus2 : Fin 15 ↪ Fin 17 := ⟨fun n => ⟨n.val + 2, by omega⟩, fun a b h => Fin.ext (by have := congrArg Fin.val h; simp only at this; omega)⟩

theorem two_first (Φ : Fin 17 → sProp M) : bigSep Finset.univ Φ = iprop(Φ 0 ∗ Φ 1 ∗ bigSep Finset.univ fun n : Fin 15 => Φ (plus2 n)) := by
  rw [(by decide +kernel : (Finset.univ : Finset (Fin 17)) = insert 0 (insert 1 (Finset.univ.map plus2))), bigSep_insert (by decide +kernel),
    bigSep_insert (by decide +kernel), BI.bigSep_map]; rfl

/-- A family over the first members. -/
theorem bigSep_first {n k : ℕ} (h : n ≤ k) (Φ : Fin k → sProp M) :
    (bigSep Finset.univ fun i : Fin n => Φ ⟨i.val, by omega⟩) = bigSep Finset.univ fun i : Fin k => if i.val < n then Φ i else iprop(emp) := by
  refine Eq.trans ?_ (bigSep_filter Finset.univ (fun i : Fin k => i.val < n) Φ)
  have e : (Finset.univ.filter fun i : Fin k => i.val < n) = Finset.univ.map (Fin.castLEEmb h) := by
    ext i
    simp only [Finset.mem_filter, Finset.mem_univ, true_and, Finset.mem_map]
    constructor
    · intro hi; exact ⟨⟨i.val, hi⟩, Fin.ext rfl⟩
    · rintro ⟨j, rfl⟩; exact j.isLt
  rw [e, BI.bigSep_map]; rfl

theorem with_each {I : Type} [DecidableEq I] {S : Finset I} {R : sProp M} [BI.Persistent R] {Φ Ψ : I → sProp M}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

end General

variable (m : (ℓ : Loc nD τ sig) → Buf (Elt F) ℓ) (Kb : Dev nD → ℕ) (Kd : Dev nD × (Fin 4 × Fin 15) → ℕ) (c : Dev nD)

omit [FloatOps F] in
theorem any_order (Φ : Fin 15 → sProp (MT nD τ sig Unit (Elt F) ℕ UU ℕ)) :
    (bigSep Finset.univ fun n : Fin 15 => Φ (pslot n.val)) ⊢ bigSep Finset.univ Φ := Entails.of_eq (bigSep_univ_equiv pslotEquiv Φ).symm

theorem share_join (s : Dev nD) (q : PosShare TreeShare) (f : S16x4x256x512.Idx → Elt F .bf16) :
    iprop(wPts (F := F) c s q.left f ∗ wPts (F := F) c s q.right f) ⊢ wPts (F := F) c s q f :=
  (pointsTo_share (PosShare.mem_left_op_right q)).2

/-- The rows read by the sends, all back. -/
theorem rows_back : iprop((bigSep Finset.univ fun n : Fin 15 => WqB m c ⟨n.val, by omega⟩)
      ∗ Ph (N := 17) (fun _ => iprop(emp)) (WqB m c) (fun _ => iprop(emp)) (15 + 2) 15)
    ⊢ iprop(WqB m c ⟨0, by decide⟩ ∗ WqB m c ⟨1, by decide⟩ ∗ bigSep Finset.univ fun n : Fin 15 => wPts c (wrow c (pslot n.val)) fullShare.left (wAll m)) := by
  rw [bigSep_first (k := 17) (by decide) (WqB m c)]
  unfold Ph
  rw [← bigSep_sep', bigSep_congr (Ψ := WqB m c) fun i _ => ?_, two_first]
  · refine sep_mono_right (sep_mono_right (Entails.of_eq (bigSep_congr fun n _ => ?_)))
    unfold WqB
    rw [if_neg (by show ¬ n.val + 2 = 0; omega), if_neg (by show ¬ n.val + 2 = 1; omega)]
    rfl
  · have := i.isLt
    by_cases h : i.val < 15
    · simp only [h, if_true]; exact equiv_iff.mp BI.sep_emp
    · simp only [h, if_false, show i.val < 15 + 2 from this, if_true]; exact equiv_iff.mp BI.emp_sep

/-- The expert table back in one piece. -/
theorem w_back : iprop((bigSep Finset.univ fun n : Fin 15 => wPts c (wsrc c (pslot n.val)) (qS (pslot n.val)) (wAll m))
      ∗ (bigSep Finset.univ fun n : Fin 15 => wPts c (wrow c (pslot n.val)) fullShare.right (wAll m))
      ∗ Ph (N := 17) (fun _ => iprop(emp)) (WqB m c) (fun _ => iprop(emp)) (15 + 2) 15 ∗ wPts c c fullShare.right.right (wAll m))
    ⊢ (((c : Thread nD τ).loc cc0_scratch0) ↦{fullShare} (wAll m) : sProp 𝕄) := by
  rw [bigSep_congr (Ψ := fun n : Fin 15 => WqB m c ⟨n.val, by omega⟩) fun n _ => (WqB_eq m c n).symm]
  iintro ⟨Hs, Hr, Hq, Hrr⟩
  ihave H := (rows_back m c) $$ [Hs Hq]
  · isplitl [Hs] <;> iassumption
  rw [WqB_zero, WqB_one]
  icases H with ⟨Hl, Hrl, Hs⟩
  ihave Hrr := (share_join c c fullShare.right (wAll m)) $$ [Hrl Hrr]
  · isplitl [Hrl] <;> iassumption
  ihave Hc := (share_join c c fullShare (wAll m)) $$ [Hl Hrr]
  · isplitl [Hl] <;> iassumption
  ihave Hs := ((Entails.of_eq (bigSep_sep' _ _ _).symm).trans (bigSep_mono (Ψ := fun n : Fin 15 => wPts c (wrow c (pslot n.val)) fullShare (wAll m))
    fun n _ => share_join c (wrow c (pslot n.val)) fullShare (wAll m))) $$ [Hs Hr]
  · isplitl [Hs] <;> iassumption
  ihave Hs := (any_order fun i => wPts c (wrow c i) fullShare (wAll m)) $$ Hs
  iapply (Entails.of_eq ((w_whole c (wAll m)).trans (bigSep_others (wrow_inj c) (wrow_ne c) _)).symm)
  isplitl [Hc] <;> iassumption

/-- The count table back in one piece. -/
theorem c_back : iprop((bigSep Finset.univ fun j : Fin 15 => cPts c c (Transfers.shareTokN fullShare j.val) (cAll m))
      ∗ (bigSep Finset.univ fun j : Fin 15 => cPts c (rot c (15 - j.val)) fullShare (cAll m)) ∗ cPts c c (Transfers.shareDrop fullShare 15) (cAll m))
    ⊢ (((c : Thread nD τ).loc cc0_scratch1) ↦{fullShare} (cAll m) : sProp 𝕄) := by
  iintro ⟨Ht, Hr, Hd⟩
  ihave Hc := (show iprop(cPts c c (Transfers.shareDrop fullShare 15) (cAll m) ∗ bigSep Finset.univ fun j : Fin 15 => cPts c c (Transfers.shareTokN fullShare j.val) (cAll m))
      ⊢ cPts c c fullShare (cAll m) from by unfold cPts; exact Transfers.pointsTo_toks_join fullShare 15) $$ [Ht Hd]
  · isplitl [Hd] <;> iassumption
  ihave Hr := (Entails.of_eq ((bigSep_univ_equiv flip15 _).trans (bigSep_congr (Ψ := fun j : Fin 15 => cPts c (rot c (j.val + 1)) fullShare (cAll m)) fun j _ =>
    congrArg (fun s => cPts c s fullShare (cAll m)) (congrArg (rot c) (show 15 - (14 - j.val) = j.val + 1 by omega))))) $$ Hr
  iapply (Entails.of_eq ((c_whole c (cAll m)).trans (bigSep_others (rot_inj c) (rot_ne c) _)).symm)
  isplitl [Hc] <;> iassumption

/-- The cells of one family close. -/
theorem close_family (a : Fin 4) : iprop(records m Kb Kd ∗ bigSep Finset.univ fun i : Fin 15 => atPos ER (dCell c (a, i)) 1 ∅ 0)
    ⊢ (|={Set.univ}=> bigSep Finset.univ fun i : Fin 15 => semVal (dCell c (a, i)) 0 : sProp 𝕄) := by
  refine (with_each (Ψ := fun i : Fin 15 => iprop(|={Set.univ}=> semVal (dCell c (a, i)) 0)) fun i _ => ?_).trans (bigSep_fupd _ _)
  iintro ⟨HR, HA⟩
  ihave HR := (records_dma m Kb Kd c (a, i)) $$ HR
  icases HR with ⟨HI, -⟩
  iapply (Rounds.cell_close ER (Rd m) (Set.mem_univ (Kd (c, (a, i)))) (fun h => h) (R := 0 + 1) (duties_later m (dCell c (a, i))))
  isplitl [HI] <;> iassumption

theorem close_bar : iprop(records m Kb Kd ∗ atPos ER (barCell c) 1 ∅ 0) ⊢ (|={Set.univ}=> semVal (barCell c) 0 : sProp 𝕄) := by
  iintro ⟨HR, HA⟩
  ihave HR := (records_bar m Kb Kd c) $$ HR
  icases HR with ⟨HI, -⟩
  iapply (Rounds.cell_close ER (Rd m) (Set.mem_univ (Kb c)) (fun h => h) (R := 0 + 1) (duties_later m (barCell c)))
  isplitl [HI] <;> iassumption

/-- What is handed back: both tables and every counter at zero. -/
def Φ₁ : sProp 𝕄 :=
  iprop((((c : Thread nD τ).loc cc0_scratch0) ↦{fullShare} (wAll m)) ∗ (((c : Thread nD τ).loc cc0_scratch1) ↦{fullShare} (cAll m))
    ∗ semVal (barCell c) 0 ∗ bigSep Finset.univ fun k : Fin 4 × Fin 15 => semVal (dCell c k) 0)

theorem families (Φ : Fin 4 × Fin 15 → sProp (MT nD τ sig Unit (Elt F) ℕ UU ℕ)) :
    bigSep Finset.univ Φ = iprop((bigSep Finset.univ fun i => Φ (0, i)) ∗ (bigSep Finset.univ fun i => Φ (1, i)) ∗ (bigSep Finset.univ fun i => Φ (2, i))
      ∗ bigSep Finset.univ fun i => Φ (3, i)) := by
  rw [bigSep_univ_prod]
  exact bigSep_univ_eq_bigSepL [0, 1, 2, 3] (by decide) (by decide) _

theorem finish : iprop(St m Kb Kd c 45 15 15 15 15 15 15 ∗ atPos ER (barCell c) 1 ∅ 0) ⊢ (|={Set.univ}=> iprop(Φ₁ m c ∗ ow (F := F) c 45) : sProp 𝕄) := by
  unfold St
  rw [Ph_end, Ph_end, Ph_end, Ph_end]
  unfold CsC CrC WsC WrC
  rw [bigSep_sep', bigSep_sep', bigSep_sep', bigSep_sep']
  iintro ⟨⟨#HR, HO, ⟨Hct, A2⟩, ⟨Hcr, A3⟩, Hcd, ⟨Hws, A0⟩, ⟨Hwr, A1⟩, Hq, Hrr⟩, AB⟩
  ihave A0 := (any_order (F := F) fun i => atPos ER (dCell c (0, i)) 1 ∅ 0) $$ A0
  ihave A1 := (any_order (F := F) fun i => atPos ER (dCell c (1, i)) 1 ∅ 0) $$ A1
  imod (close_family m Kb Kd c 0) $$ [A0] with V0
  · isplitr; · iexact HR
    iexact A0
  imod (close_family m Kb Kd c 1) $$ [A1] with V1
  · isplitr; · iexact HR
    iexact A1
  imod (close_family m Kb Kd c 2) $$ [A2] with V2
  · isplitr; · iexact HR
    iexact A2
  imod (close_family m Kb Kd c 3) $$ [A3] with V3
  · isplitr; · iexact HR
    iexact A3
  imod (close_bar m Kb Kd c) $$ [AB] with VB
  · isplitr; · iexact HR
    iexact AB
  imodintro
  isplitr [HO]
  · unfold Φ₁
    isplitl [Hws Hwr Hq Hrr]
    · iapply (w_back m c)
      isplitl [Hws]; · iexact Hws
      isplitl [Hwr]; · iexact Hwr
      isplitl [Hq] <;> iassumption
    isplitl [Hct Hcr Hcd]
    · iapply (c_back m c)
      isplitl [Hct]; · iexact Hct
      isplitl [Hcr] <;> iassumption
    isplitl [VB]; · iexact VB
    iapply (Entails.of_eq (families fun k => semVal (dCell c k) 0).symm)
    isplitl [V0]; · iexact V0
    isplitl [V1]; · iexact V1
    isplitl [V2] <;> iassumption
  iexact HO

end Cert.Moe
-- ==== Proof.Duty.lean ====
module

public import proofs.«01_k».proof.Proof.Body
public import proofs.«01_k».proof.Proof.Exit

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! # The point of the pipeline -/

variable (m : (ℓ : Loc nD τ sig) → Buf (Elt F) ℓ) (ρ : Dev nD → PrngReg) (Kb : Dev nD → ℕ) (Kd : Dev nD × (Fin 4 × Fin 15) → ℕ) (c : Dev nD)

/-- All cells' invariants, and that all are at round 0 at least. -/
def recs : sProp 𝕄 :=
  iprop((bigSep Finset.univ fun c : Dev nD => iprop(cellInv ER (Rd (F := F) m) (Kb c) (barCell c) ∗ reached ER (barCell c) 0))
    ∗ (bigSep Finset.univ fun p : Dev nD × (Fin 4 × Fin 15) => iprop(cellInv ER (Rd (F := F) m) (Kd p) (dCell p.1 p.2) ∗ reached ER (dCell p.1 p.2) 0)))

instance recs_persistent : BI.Persistent (recs (F := F) m Kb Kd) := by unfold recs; infer_instance

/-- The tokens a device pays with. -/
def payToks : sProp 𝕄 :=
  iprop((bigSep Finset.univ fun j : Fin 15 => dutyTok ER (barCell (rot c (j.val + 1))) 0 j)
    ∗ (bigSep Finset.univ fun j : Fin 15 => dutyTok ER (dCell c (2, j)) 0 (0 : Fin 15))
    ∗ (bigSep Finset.univ fun j : Fin 15 => dutyTok ER (dCell (rot c (j.val + 1)) (3, j)) 0 (0 : Fin 15))
    ∗ (bigSep Finset.univ fun i : Fin 15 => dutyTok ER (dCell c (0, i)) 0 (0 : Fin 15))
    ∗ (bigSep Finset.univ fun i : Fin 15 => dutyTok ER (dCell (wdst c i) (1, i)) 0 (0 : Fin 15)))
/-- Its positions at its own cells. -/
def places : sProp 𝕄 :=
  iprop(atPos ER (barCell c) 0 ∅ 0 ∗ bigSep Finset.univ fun k : Fin 4 × Fin 15 => atPos ER (dCell c k) 0 ∅ 0)
/-- Its credit. -/
def creds : sProp 𝕄 :=
  iprop(cred (tallyAt (barCell c) () 15)
    ∗ (bigSep Finset.univ fun j : Fin 15 => cred (tallyAt (dCell c (3, j)) () Nc))
    ∗ (bigSep Finset.univ fun i : Fin 15 => cred (tallyAt (dCell c (1, i)) () Nw)))

/-- What a device's body starts from. -/
def start : sProp 𝕄 := iprop((∃ Kb Kd, recs m Kb Kd ∗ payToks c ∗ places c) ∗ creds c ∗ levAts L lv)
def Φ₀ : sProp 𝕄 :=
  iprop(start m c ∗ (∃ f, ((c : Thread nD τ).loc cc0_scratch0) ↦{fullShare} f) ∗ (∃ f, ((c : Thread nD τ).loc cc0_scratch1) ↦{fullShare} f))

/-- The kernel's result on device `c`. -/
def outAt : (cc0_stg3_0 : Ref sig .tc).ty.Contents (Elt F) := gN m c (tgt m c) (keepv m c) 15

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => rstg m c
    | ⟨2, _⟩ => estg m c
    | ⟨3, _⟩ => outAt m c
  Φ t := match t with
    | ⟨0, _⟩ => Φ₀ m c
    | ⟨_ + 1, _⟩ => Φ₁ m c
  q _ := fullShare
  owed t := match t with
    | ⟨0, _⟩ => owed c 0
    | ⟨_ + 1, _⟩ => 0

omit [FloatOps F] in
theorem stage_at (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- A staged block is in place. -/
theorem stg_of {b : Ref sig .tc} {X : b.ty.Contents (Elt F)} {Y : (b.ty.Contents (Elt F)) → b.ty.Contents (Elt F)} (h : ∀ d, Y d = X) :
    iprop(∃ d, stg (F := F) c b (Y d)) ⊢ (((c : Thread nD τ).loc b) ↦{fullShare} X : sProp 𝕄) := by
  iintro ⟨%d, %g, %hg, H⟩
  rw [hg, h]; iexact H
theorem stg_to {b : Ref sig .tc} (X : b.ty.Contents (Elt F)) : (((c : Thread nD τ).loc b) ↦{fullShare} X : sProp 𝕄) ⊢ stg (F := F) c b X := by
  iintro H
  iexists X
  isplitr; · (ipureintro; rfl)
  iexact H
theorem stg_any {b : Ref sig .tc} {Y : (b.ty.Contents (Elt F)) → b.ty.Contents (Elt F)} :
    iprop(∃ d, stg (F := F) c b (Y d)) ⊢ (iprop(∃ f : b.ty.Contents (Elt F), ((c : Thread nD τ).loc b) ↦{fullShare} f) : sProp 𝕄) := by
  iintro ⟨%d, %g, %hg, H⟩
  iexists g; iexact H

omit [FloatOps F] in
theorem sg_start : iprop((bigSep Finset.univ fun j : Fin 15 => dutyTok ER (barCell (rot c (j.val + 1))) 0 j) ∗ bigSep Finset.univ fun j : Fin 15 => barPay (F := F) c j)
    ⊢ (Ph (SgA c) (fun _ => iprop(emp)) (fun _ => iprop(emp)) 0 0 : sProp 𝕄) := by
  rw [Ph_start, ← bigSep_sep']; exact Entails.of_eq rfl

/-- The body's start, from what the launch deals. -/
theorem begin : iprop(Φ₀ m c ∗ (∃ W, owes (c : Thread nD τ) (owed c 0) W) ∗ rPts m c ∗ ePts m c ∗ xPts m c ∗ (∃ f, oPts (F := F) c f))
    ⊢ iprop(∃ Kb Kd, Start m Kb Kd c) := by
  unfold Φ₀ start creds payToks places Start Sg Tk records recs ow
  rw [families]
  iintro ⟨⟨⟨⟨%Kb, %Kd, ⟨#HB, #HD⟩, ⟨TB, T2, T3, T0, T1⟩, AB, A0, A1, A2, A3⟩, ⟨CB, C3, C1⟩, #HL⟩, Hw, Hc⟩, HO, Hr, He, Hx, Ho⟩
  ihave HT := (tables_out (F := F) c) $$ [Hw Hc]
  · isplitl [Hw] <;> iassumption
  icases HT with ⟨Hw, Hc, HP⟩
  iexists Kb; iexists Kd
  isplitl [HO TB HP]
  · isplitr
    · isplitr; · iexact HB
      isplitr; · iexact HD
      iexact HL
    isplitl [HO]; · iexact HO
    iapply (sg_start c)
    isplitl [TB] <;> iassumption
  isplitl [CB AB]
  · isplitl [CB] <;> iassumption
  isplitl [Hr]; · iexact Hr
  isplitl [He]; · iexact He
  isplitl [Hw]; · iexact Hw
  isplitl [Hc]; · iexact Hc
  isplitr [Hx Ho]
  · isplitl [T2]; · iexact T2
    isplitl [T3]; · iexact T3
    isplitl [T0]; · iexact T0
    isplitl [T1]; · iexact T1
    isplitl [A2]; · iexact A2
    isplitl [A3]; · iexact A3
    isplitl [A0]; · iexact A0
    isplitl [A1]; · iexact A1
    isplitl [C3] <;> iassumption
  isplitl [Hx] <;> iassumption

/-- The body's end. -/
def endPost : sProp 𝕄 :=
  iprop(Φ₁ m c ∗ (∃ W, owes (c : Thread nD τ) 0 W) ∗ stg c cc0_stg0_0 (xstg m c) ∗ stg c cc0_stg1_0 (rstg m c) ∗ stg c cc0_stg2_0 (estg m c)
    ∗ stg c cc0_stg3_0 (outAt m c))

theorem ends : iprop(St m Kb Kd c 45 15 15 15 15 15 15 ∗ XO m c (tgt m c) (keepv m c) 15 ∗ Rest m c) ⊢ (|={Set.univ}=> endPost m c : sProp 𝕄) := by
  unfold XO Rest
  iintro ⟨HS, ⟨Hx, Ho⟩, Hr, He, HA⟩
  imod (finish m Kb Kd c) $$ [HS HA] with ⟨HF, HO⟩
  · isplitl [HS] <;> iassumption
  imodintro
  unfold endPost ow
  rw [owed_end]
  isplitl [HF]; · iexact HF
  isplitl [HO]; · iexact HO
  isplitl [Hx]; · iapply (stg_to c (xstg m c)); iexact Hx
  isplitl [Hr]; · iapply (stg_to c (rstg m c)); iexact Hr
  isplitl [He]; · iapply (stg_to c (estg m c)); iexact He
  iapply (stg_to c (outAt m c)); iexact Ho

/-- The body between the two. -/
theorem sound_body {Q : PUnit → sProp (MT nD τ sig Unit (Elt F) ℕ UU ℕ)} (h : endPost m c ⊢ Q ⟨⟩) :
    iprop(Φ₀ m c ∗ (∃ W, owes (c : Thread nD τ) (owed c 0) W) ∗ rPts m c ∗ ePts m c ∗ xPts m c ∗ (∃ f, oPts (F := F) c f))
      ⊢ WP c (cc0_body xM (Memref.isWhole_whole _) rM (Memref.isWhole_whole _) eM (Memref.isWhole_whole _) oM (Memref.isWhole_whole _)
        wM (Memref.isWhole_whole _) cM (Memref.isWhole_whole _) cc0_scratch2 cc0_scratch3 cc0_scratch4 cc0_scratch5) Q := by
  refine (begin m c).trans ?_
  iintro ⟨%Kb, %Kd, H⟩
  iapply ((body_run m Kb Kd c (Q := fun a => iprop(|={Set.univ}=> Q a)) ((ends m Kb Kd c).trans (BI.fupd_mono h))).trans (wp_fupd _ _ _ _ _))
  iexact H

abbrev t₀ : Fin cfg0.N := t0_0

/-- The body obligation. -/
theorem body_obligation : BodyObligation (dats (F := F) m ρ 0 c) (defs₀ (F := F)) 𝒱₀ () Set.univ := fun t => by
  rw [show t = t₀ from fin_N0 t]
  rw [bigSep_W0, bigSep_W0]
  simp only [stage_at]
  show iprop(Φ₀ m c ∗ (dats m ρ 0 c).owesAt () t₀.castSucc
      ∗ (∃ d, stg c cc0_stg0_0 ((dats m ρ 0 c).before (0 : Fin 4) t₀ d)) ∗ (∃ d, stg c cc0_stg1_0 ((dats m ρ 0 c).before (1 : Fin 4) t₀ d))
      ∗ (∃ d, stg c cc0_stg2_0 ((dats m ρ 0 c).before (2 : Fin 4) t₀ d)) ∗ (∃ d, stg c cc0_stg3_0 ((dats m ρ 0 c).before (3 : Fin 4) t₀ d)))
    ⊢ WP c (cc0_body xM (Memref.isWhole_whole _) rM (Memref.isWhole_whole _) eM (Memref.isWhole_whole _) oM (Memref.isWhole_whole _)
        wM (Memref.isWhole_whole _) cM (Memref.isWhole_whole _) cc0_scratch2 cc0_scratch3 cc0_scratch4 cc0_scratch5)
      (fun _ => iprop(Φ₁ m c ∗ (dats m ρ 0 c).owesAt () t₀.succ ∗ stg c cc0_stg0_0 (xstg m c) ∗ stg c cc0_stg1_0 (rstg m c)
        ∗ stg c cc0_stg2_0 (estg m c) ∗ stg c cc0_stg3_0 (outAt m c)))
  refine .trans ?_ (sound_body m c ?_)
  · unfold Dat.owesAt Pipeline.owesWithin
    rw [show (dats m ρ 0 c).owed t₀.castSucc = owed c 0 from rfl]
    iintro ⟨HF, ⟨%W, %hW, HO⟩, Hx, Hr, He, Ho⟩
    isplitl [HF]; · iexact HF
    isplitl [HO]; · iexists W; iexact HO
    isplitl [Hr]; · iapply (stg_of c (b := cc0_stg1_0) (X := rstg m c) (Y := fun d => (dats m ρ 0 c).before (1 : Fin 4) t₀ d) fun d => by unfold Dat.before; rw [if_pos (fetch0_1 t₀)]; rfl); iexact Hr
    isplitl [He]; · iapply (stg_of c (b := cc0_stg2_0) (X := estg m c) (Y := fun d => (dats m ρ 0 c).before (2 : Fin 4) t₀ d) fun d => by unfold Dat.before; rw [if_pos (fetch0_2 t₀)]; rfl); iexact He
    isplitl [Hx]; · iapply (stg_of c (b := cc0_stg0_0) (X := xstg m c) (Y := fun d => (dats m ρ 0 c).before (0 : Fin 4) t₀ d) fun d => by unfold Dat.before; rw [if_pos (fetch0_0 t₀)]; rfl); iexact Hx
    iapply (stg_any c (b := cc0_stg3_0) (Y := fun d => (dats m ρ 0 c).before (3 : Fin 4) t₀ d)); iexact Ho
  · unfold endPost Dat.owesAt Pipeline.owesWithin
    rw [show (dats m ρ 0 c).owed t₀.succ = 0 from rfl]
    iintro ⟨HF, ⟨%W, HO⟩, H⟩
    isplitl [HF]; · iexact HF
    isplitl [HO]
    · iexists W
      isplitr; · ipureintro; exact fun _ _ => Or.inl trivial
      iexact HO
    iexact H

end Cert.Moe
-- ==== Proof.Deal.lean ====
module

public import proofs.«01_k».proof.Proof.Duty

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! # What the launch deals -/

variable (m : (ℓ : Loc nD τ sig) → Buf (Elt F) ℓ) (ρ : Dev nD → PrngReg) (c : Dev nD)

/-! ## Credit -/

/-- Each payment reaches each device from one other. -/
theorem one_payer (c : Dev nD) (k : Fin 45) : (∑ d : Dev nD, if c = rot d (prot k.val) then 1 else 0) = 1 :=
  (by decide +kernel : ∀ (c : Dev nD) (k : Fin 45), (∑ d : Dev nD, if c = rot d (prot k.val) then 1 else 0) = 1) c k

theorem pcell_eq (c d : Dev nD) (sm : SemLoc sig) (k : ℕ) : ((c : Thread nD τ), sm) = pcell d k ↔ c = rot d (prot k) ∧ sm = psem k := by
  unfold pcell
  constructor
  · intro h
    exact ⟨congrArg (fun g : GSem nD τ sig => g.1.1) h, congrArg Prod.snd h⟩
  · rintro ⟨rfl, rfl⟩; rfl

/-- What all devices together owe one cell. -/
theorem owed_total (sm : SemLoc sig) :
    ∑ d : Dev nD, owed d 0 ((c : Thread nD τ), sm) () = ∑ k : Fin 45, if sm = psem k.val then pamt k.val else 0 := by
  have h1 : ∀ d : Dev nD, owed d 0 ((c : Thread nD τ), sm) () = ∑ k : Fin 45, if sm = psem k.val then (if c = rot d (prot k.val) then 1 else 0) * pamt k.val else 0 := by
    intro d
    unfold owed
    rw [Finset.sum_apply, Finsupp.finset_sum_apply, ← Finset.range_eq_Ico, Finset.sum_range]
    refine Finset.sum_congr rfl fun k _ => ?_
    rw [tallyAt_apply]
    by_cases h : sm = psem k.val
    · by_cases h' : c = rot d (prot k.val)
      · rw [if_pos ⟨(pcell_eq c d sm k.val).2 ⟨h', h⟩, rfl⟩, if_pos h, if_pos h', one_mul]
      · rw [if_neg (fun h2 => h' ((pcell_eq c d sm k.val).1 h2.1).1), if_pos h, if_neg h', zero_mul]
    · rw [if_neg (fun h2 => h ((pcell_eq c d sm k.val).1 h2.1).2), if_neg h]
  rw [Finset.sum_congr rfl fun d _ => h1 d, Finset.sum_comm]
  refine Finset.sum_congr rfl fun k _ => ?_
  by_cases h : sm = psem k.val
  · simp only [if_pos h]
    rw [← Finset.sum_mul, one_payer, one_mul]
  · simp only [if_neg h, Finset.sum_const_zero]

/-- A cell paid once. -/
theorem owed_once {sm : SemLoc sig} (k : Fin 45) (h : ∀ k' : Fin 45, sm = psem k'.val ↔ k' = k) :
    ∑ d : Dev nD, owed d 0 ((c : Thread nD τ), sm) () = pamt k.val := by
  rw [owed_total, Finset.sum_eq_single k (fun b _ hb => if_neg fun hs => hb ((h b).1 hs)) (fun hk => absurd (Finset.mem_univ k) hk), if_pos ((h k).2 rfl)]

theorem psem_bar : ∀ k : Fin 45, SemLoc.reg barS = psem k.val ↔ k.val < 15 := by decide +kernel
theorem psem_count : ∀ (j : Fin 15) (k' : Fin 45), osem (3, j) = psem k'.val ↔ k' = (⟨15 + j.val, by omega⟩ : Fin 45) := by decide +kernel
theorem psem_row : ∀ (n : Fin 15) (k' : Fin 45), osem (1, pslot n.val) = psem k'.val ↔ k' = (⟨30 + n.val, by omega⟩ : Fin 45) := by decide +kernel

theorem pamt_bar {k : ℕ} (h : k < 15) : pamt k = 1 := if_pos h
theorem pamt_count {k : ℕ} (h : ¬ k < 15) (h' : k < 30) : pamt k = Nc := (if_neg h).trans (if_pos h')
theorem pamt_row {k : ℕ} (h : ¬ k < 30) : pamt k = Nw := (if_neg (by omega)).trans (if_neg h)

theorem total_bar : ∑ d : Dev nD, owed d 0 (barCell c) () = 15 := by
  rw [owed_total, Finset.sum_congr (g := fun k : Fin 45 => if k.val < 15 then 1 else 0) rfl fun k _ => ?_]
  · decide +kernel
  · by_cases h : k.val < 15
    · rw [if_pos ((psem_bar k).2 h), if_pos h, pamt_bar h]
    · rw [if_neg (fun h' => h ((psem_bar k).1 h')), if_neg h]
theorem total_count (j : Fin 15) : ∑ d : Dev nD, owed d 0 (dCell c (3, j)) () = Nc :=
  (owed_once c ⟨15 + j.val, by omega⟩ (psem_count j)).trans (pamt_count (by show ¬ 15 + j.val < 15; omega) (by show 15 + j.val < 30; omega))
theorem total_row (i : Fin 15) : ∑ d : Dev nD, owed d 0 (dCell c (1, i)) () = Nw := by
  obtain ⟨n, rfl⟩ := pslotEquiv.surjective i
  exact (owed_once c ⟨30 + n.val, by omega⟩ (psem_row n)).trans (pamt_row (by show ¬ 30 + n.val < 30; omega))

abbrev O₀ (c : Dev nD) : CellTallies nD τ sig Unit := owed c 0

/-- The launch credit of a cell. -/
theorem credit_of {g : GSem nD τ sig} {a : ℕ} (h : ∑ d : Dev nD, owed d 0 g () = a) :
    tallyOn g (launchCredit (Pipeline.owing O₀) 0 g) = (tallyAt g () a : CellTallies nD τ sig Unit) := by
  unfold tallyAt; refine congrArg _ (Finsupp.ext fun u => ?_); cases u
  rw [Pipeline.launchCredit_owing, Finsupp.single_eq_same, h]

/-- The semaphores of a family. -/
def fam (a : Fin 4) : Finset (SemLoc sig) := Finset.univ.map ⟨fun i : Fin 15 => osem (a, i), fun i i' h => congrArg Prod.snd (osem_inj h)⟩
theorem fam_disj : Disjoint (fam 3) (fam 1) := by
  rw [Finset.disjoint_left]
  intro s h h'
  obtain ⟨i, -, rfl⟩ := Finset.mem_map.1 h
  obtain ⟨i', -, e⟩ := Finset.mem_map.1 h'
  exact absurd (congrArg Prod.fst (osem_inj e)) (show ¬ (1 : Fin 4) = 3 from by decide)
theorem bar_fam : SemLoc.reg barS ∉ fam 3 ∪ fam 1 := by
  intro h
  rcases Finset.mem_union.1 h with h | h <;> obtain ⟨i, -, e⟩ := Finset.mem_map.1 h <;> exact osem_ne_bar _ e

omit [FloatOps F] in
theorem creds_eq : (bigSep (insert (SemLoc.reg barS) (fam 3 ∪ fam 1)) fun sm => cred (tallyOn ((c : Thread nD τ), sm) (launchCredit (Pipeline.owing O₀) 0 ((c : Thread nD τ), sm))) : sProp 𝕄) = creds c := by
  rw [bigSep_insert bar_fam, bigSep_union fam_disj]
  unfold fam creds
  rw [BI.bigSep_map, BI.bigSep_map]
  refine congrArg₂ _ (congrArg _ (credit_of (total_bar c))) (congrArg₂ _ ?_ ?_)
  · exact bigSep_congr fun j _ => congrArg _ (credit_of (total_count c j))
  · exact bigSep_congr fun i _ => congrArg _ (credit_of (total_row c i))

omit [FloatOps F] in
theorem creds_intro : (Pipeline.launchCred O₀ c : sProp 𝕄) ⊢ creds c := by
  rw [← creds_eq]
  unfold Pipeline.launchCred
  exact bigSep_subset (Finset.subset_univ _)

/-! ## Cells and tokens -/

theorem barCell_inj : Function.Injective barCell := fun _ _ h => congrArg (fun g : GSem nD τ sig => g.1.1) h
theorem dCell_inj : Function.Injective fun p : Dev nD × (Fin 4 × Fin 15) => dCell p.1 p.2 := fun _ _ h =>
  Prod.ext (congrArg (fun g : GSem nD τ sig => g.1.1) h) (osem_inj (congrArg Prod.snd h))
theorem barTok_inj : Function.Injective fun p : Dev nD × Fin 15 => ((barCell p.1, 0, p.2) : GSem nD τ sig × ℕ × Fin 15) := fun _ _ h =>
  Prod.ext (congrArg (fun x : GSem nD τ sig × ℕ × Fin 15 => x.1.1.1) h) (congrArg (fun x : GSem nD τ sig × ℕ × Fin 15 => x.2.2) h)
theorem dmaTok_inj : Function.Injective fun p : Dev nD × (Fin 4 × Fin 15) => ((dCell p.1 p.2, 0, 0) : GSem nD τ sig × ℕ × Fin 15) := fun _ _ h =>
  dCell_inj (congrArg (fun x : GSem nD τ sig × ℕ × Fin 15 => x.1) h)

def barCells : Finset (GSem nD τ sig) := Finset.univ.map ⟨_, barCell_inj⟩
def dmaCells : Finset (GSem nD τ sig) := Finset.univ.map ⟨_, dCell_inj⟩
def barToks : Finset (GSem nD τ sig × ℕ × Fin 15) := Finset.univ.map ⟨_, barTok_inj⟩
def dmaToks : Finset (GSem nD τ sig × ℕ × Fin 15) := Finset.univ.map ⟨_, dmaTok_inj⟩
def allCells : Finset (GSem nD τ sig) := barCells ∪ dmaCells
def allToks : Finset (GSem nD τ sig × ℕ × Fin 15) := barToks ∪ dmaToks

theorem cells_disj : Disjoint barCells dmaCells := by
  rw [Finset.disjoint_left]
  intro s h h'
  obtain ⟨i, -, rfl⟩ := Finset.mem_map.1 h
  obtain ⟨i', -, e⟩ := Finset.mem_map.1 h'
  exact osem_ne_bar i'.2 (congrArg Prod.snd e)
theorem toks_disj : Disjoint barToks dmaToks := by
  rw [Finset.disjoint_left]
  intro s h h'
  obtain ⟨i, -, rfl⟩ := Finset.mem_map.1 h
  obtain ⟨i', -, e⟩ := Finset.mem_map.1 h'
  exact osem_ne_bar i'.2 (congrArg (fun x : GSem nD τ sig × ℕ × Fin 15 => x.1.2) e)

omit [FloatOps F] in
theorem over_cells (Φ : GSem nD τ sig → sProp (MT nD τ sig Unit (Elt F) ℕ UU ℕ)) :
    bigSep allCells Φ = bigSep Finset.univ fun c : Dev nD => iprop(Φ (barCell c) ∗ bigSep Finset.univ fun k : Fin 4 × Fin 15 => Φ (dCell c k)) := by
  unfold allCells
  rw [bigSep_union cells_disj, bigSep_sep', show bigSep barCells Φ = _ from BI.bigSep_map _, show bigSep dmaCells Φ = _ from BI.bigSep_map _, bigSep_univ_prod]; rfl

/-- The duty tokens of a device's own cells. -/
def ownToks : sProp 𝕄 :=
  iprop((bigSep Finset.univ fun j : Fin 15 => dutyTok ER (barCell c) 0 j) ∗ bigSep Finset.univ fun k : Fin 4 × Fin 15 => dutyTok ER (dCell c k) 0 (0 : Fin 15))

omit [FloatOps F] in
theorem over_toks : bigSep allToks (fun x => (dutyTok ER x.1 x.2.1 x.2.2 : sProp 𝕄)) = bigSep Finset.univ fun c : Dev nD => ownToks (F := F) c := by
  unfold allToks ownToks
  rw [bigSep_union toks_disj, bigSep_sep', show bigSep barToks _ = _ from BI.bigSep_map _, show bigSep dmaToks _ = _ from BI.bigSep_map _,
    bigSep_univ_prod, bigSep_univ_prod]; rfl

/-- What the launch element deals device `c`. -/
def G : sProp 𝕄 :=
  iprop((roundState ER (Rd (F := F) m) (barCell c) 0 ∗ bigSep Finset.univ fun k : Fin 4 × Fin 15 => roundState ER (Rd (F := F) m) (dCell c k) 0)
    ∗ (reached ER (barCell c) 0 ∗ bigSep Finset.univ fun k : Fin 4 × Fin 15 => reached ER (dCell c k) 0) ∗ places c ∗ ownToks c)
/-- What the first step makes of it. -/
def G' : sProp 𝕄 := iprop(∃ Kb Kd, recs m Kb Kd ∗ payToks c ∗ places c)

theorem G_split : bigSep Finset.univ (G m) =
    iprop((bigSep Finset.univ fun c : Dev nD => iprop(roundState ER (Rd (F := F) m) (barCell c) 0 ∗ bigSep Finset.univ fun k : Fin 4 × Fin 15 => roundState ER (Rd (F := F) m) (dCell c k) 0))
      ∗ (bigSep Finset.univ fun c : Dev nD => iprop(reached ER (barCell c) 0 ∗ bigSep Finset.univ fun k : Fin 4 × Fin 15 => reached ER (dCell c k) 0))
      ∗ bigSep Finset.univ (fun c => places (F := F) c) ∗ bigSep Finset.univ fun c => ownToks (F := F) c) := by
  unfold G
  simp only [bigSep_sep']

theorem fund_all : BI.own (ER (initOf allCells allToks)) ⊢ (|==> bigSep Finset.univ (G m) : sProp 𝕄) := by
  iintro HX
  imod (Rounds.fund ER (Rd m) allCells allToks) $$ HX with ⟨Hst, Hr, Hat, Htok⟩
  imodintro
  ihave Hst := (Entails.of_eq (over_cells fun g => roundState ER (Rd m) g 0)) $$ Hst
  ihave Hat := (Entails.of_eq (over_cells (F := F) fun g => atPos ER g 0 ∅ 0)) $$ Hat
  ihave Hr := (Entails.of_eq (over_cells (F := F) fun g => reached ER g 0)) $$ Hr
  ihave Htok := (Entails.of_eq (over_toks (F := F))) $$ Htok
  iapply (Entails.of_eq (G_split m).symm)
  isplitl [Hst]; · iexact Hst
  isplitl [Hr]; · iexact Hr
  isplitl [Hat]; · unfold places; iexact Hat
  iexact Htok

omit [FloatOps F] in
theorem unscoped_bar : (unscopedSems0 c : sProp 𝕄) = semVal (barCell c) 0 := by
  unfold unscopedSems0; rw [bigSep_eq_bigSepL_of_eq [SemLoc.reg barS] (by decide +kernel) (by decide)]; rfl
omit [FloatOps F] in
theorem own_dma : (Pipeline.ownSems0 (Ix := Unit) (Name := ℕ) (U := UU) (Lvl := ℕ) (Val := Elt F) (τ := τ) osem c : sProp 𝕄)
    = bigSep Finset.univ fun k : Fin 4 × Fin 15 => semVal (dCell c k) 0 := rfl

/-- A device's invariants are made. -/
theorem core_alloc : iprop(Pipeline.ownSems0 (Ix := Unit) (Name := ℕ) (U := UU) (Lvl := ℕ) (Val := Elt F) (τ := τ) osem c ∗ unscopedSems0 c ∗ G m c)
    ⊢ |={Set.univ}=> iprop(((∃ κ : ℕ, cellInv ER (Rd m) κ (barCell c)) ∗ bigSep Finset.univ fun k : Fin 4 × Fin 15 => iprop(∃ κ : ℕ, cellInv ER (Rd m) κ (dCell c k)))
      ∗ (reached ER (barCell c) 0 ∗ bigSep Finset.univ fun k : Fin 4 × Fin 15 => reached ER (dCell c k) 0) ∗ places c ∗ ownToks c) := by
  rw [unscoped_bar, own_dma]
  unfold G
  iintro ⟨Hd, Hb, ⟨Sb, Sd⟩, Hr, Hp, Ht⟩
  imod ((Rounds.body_intro ER (Rd m) (barCell c)).trans inv_alloc) $$ [Hb Sb] with Ib
  · isplitl [Hb] <;> iassumption
  imod (show iprop((bigSep Finset.univ fun k : Fin 4 × Fin 15 => semVal (dCell c k) 0) ∗ bigSep Finset.univ fun k : Fin 4 × Fin 15 => roundState ER (Rd m) (dCell c k) 0)
      ⊢ (|={Set.univ}=> bigSep Finset.univ fun k : Fin 4 × Fin 15 => iprop(∃ κ : ℕ, cellInv ER (Rd m) κ (dCell c k)) : sProp 𝕄) from by
        rw [← bigSep_sep']
        exact (bigSep_mono fun k _ => (Rounds.body_intro ER (Rd m) (dCell c k)).trans inv_alloc).trans (bigSep_fupd _ _)) $$ [Hd Sd] with Id
  · isplitl [Hd] <;> iassumption
  imodintro
  isplitl [Ib Id]
  · isplitl [Ib] <;> iassumption
  isplitl [Hr]; · iexact Hr
  isplitl [Hp] <;> iassumption

/-! ## Tokens dealt around -/

/-- A family over devices and slots, its members turned by an amount that depends on the slot. -/
theorem turned (Φ : Dev nD → Fin 15 → sProp (MT nD τ sig Unit (Elt F) ℕ UU ℕ)) (e : Fin 15 → (Dev nD ≃ Dev nD)) :
    (bigSep Finset.univ fun c => bigSep Finset.univ fun j => Φ c j) = bigSep Finset.univ fun c => bigSep Finset.univ fun j => Φ (e j c) j := by
  rw [bigSep_exchange, bigSep_exchange Finset.univ Finset.univ fun c j => Φ (e j c) j]
  exact bigSep_congr fun j _ => bigSep_univ_equiv (e j) fun c => Φ c j

def upBy (j : Fin 15) : Dev nD ≃ Dev nD := rotEquiv (j.val + 1) (15 - j.val) (by omega)
def toDst (i : Fin 15) : Dev nD ≃ Dev nD := rotEquiv (if i.val < 8 then 1 else 15) (if i.val < 8 then 15 else 1) (by split <;> rfl)

theorem toks_around : (bigSep Finset.univ fun c : Dev nD => ownToks (F := F) c) ⊢ (bigSep Finset.univ fun c : Dev nD => payToks c : sProp 𝕄) := by
  unfold ownToks payToks
  rw [bigSep_sep', bigSep_congr (s := Finset.univ) (fun (c : Dev nD) _ => families (F := F) fun k => dutyTok ER (dCell c k) 0 (0 : Fin 15))]
  simp only [bigSep_sep']
  iintro ⟨HB, H0, H1, H2, H3⟩
  isplitl [HB]; · iapply (Entails.of_eq (turned (F := F) (fun c j => dutyTok ER (barCell c) 0 j) upBy)); iexact HB
  isplitl [H2]; · iexact H2
  isplitl [H3]; · iapply (Entails.of_eq (turned (F := F) (fun c j => dutyTok ER (dCell c (3, j)) 0 (0 : Fin 15)) upBy)); iexact H3
  isplitl [H0]; · iexact H0
  iapply (Entails.of_eq (turned (F := F) (fun c i => dutyTok ER (dCell c (1, i)) 0 (0 : Fin 15)) toDst)); iexact H1

theorem deal_one (Kb : Dev nD → ℕ) (Kd : Dev nD × (Fin 4 × Fin 15) → ℕ) : iprop(recs m Kb Kd ∗ payToks (F := F) c ∗ places c) ⊢ G' m c := by
  unfold G'
  iintro H
  iexists Kb; iexists Kd; iexact H

theorem regroup : (bigSep Finset.univ fun c : Dev nD =>
      iprop(((∃ κ : ℕ, cellInv ER (Rd (F := F) m) κ (barCell c)) ∗ bigSep Finset.univ fun k : Fin 4 × Fin 15 => iprop(∃ κ : ℕ, cellInv ER (Rd (F := F) m) κ (dCell c k)))
      ∗ (reached ER (barCell c) 0 ∗ bigSep Finset.univ fun k : Fin 4 × Fin 15 => reached ER (dCell c k) 0) ∗ places c ∗ ownToks c) : sProp 𝕄)
    ⊢ bigSep Finset.univ (G' m) := by
  simp only [bigSep_sep']
  rw [← bigSep_univ_prod (fun p : Dev nD × (Fin 4 × Fin 15) => iprop(∃ κ : ℕ, cellInv ER (Rd (F := F) m) κ (dCell p.1 p.2))),
    ← bigSep_univ_prod (fun p : Dev nD × (Fin 4 × Fin 15) => (reached ER (dCell p.1 p.2) 0 : sProp 𝕄))]
  iintro ⟨⟨Ib, Id⟩, ⟨#Rb, #Rx⟩, Hp, Ht⟩
  ihave Ib := (BI.bigSep_exists_pi Finset.univ (fun (c : Dev nD) (κ : ℕ) => (cellInv ER (Rd m) κ (barCell c) : sProp 𝕄))) $$ Ib
  icases Ib with ⟨%Kb, #Ib⟩
  ihave Id := (BI.bigSep_exists_pi Finset.univ (fun (p : Dev nD × (Fin 4 × Fin 15)) (κ : ℕ) => (cellInv ER (Rd m) κ (dCell p.1 p.2) : sProp 𝕄))) $$ Id
  icases Id with ⟨%Kd, #Id⟩
  ihave Ht := (toks_around (F := F)) $$ Ht
  iapply (with_each (R := recs m Kb Kd) (Φ := fun c => iprop(payToks c ∗ places c)) fun c _ => deal_one m c Kb Kd)
  isplitr
  · unfold recs
    rw [bigSep_sep', bigSep_sep']
    isplitr
    · isplitr; · iexact Ib
      iexact Rb
    isplitr; · iexact Id
    iexact Rx
  rw [bigSep_sep']
  isplitl [Ht] <;> iassumption

/-- The first step, for all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.Moe
-- ==== Proof.Run.lean ====
module

public import proofs.«01_k».proof.Proof.Deal
public import Idealize.ShloMosaic.Lib.Pipeline.Quiescent

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! # The run -/

variable (m : (ℓ : Loc nD τ sig) → Buf (Elt F) ℓ) (ρ : Dev nD → PrngReg) (c : Dev nD)

theorem ownSemFacts : Pipeline.OwnSemFacts cfg0.spec osem := by decide +kernel

theorem share_eq (w : Fin cfg0.W) : (dats m ρ 0 c).share w = fullShare := by unfold Pipeline.Dat.share; split <;> rfl

def u₀ : UU := (initOf (Pipeline.cells cfgs cellOf_inj) (Pipeline.launchToks cfgs cellOf_inj), initOf allCells allToks)

/-- The argument no window names. -/
def kept₁ : sProp 𝕄 := iprop((((c : Thread nD τ).loc main_arg1) ↦{fullShare} m ((c : Thread nD τ).loc main_arg1)))

theorem rest_eq : (Pipeline.unscopedRestP (Ix := Unit) (Name := ℕ) (U := UU) (Lvl := ℕ) Pipeline.Prefetch.none cfg0.spec c (fun b => m ((c : Thread nD τ).loc b)) : sProp 𝕄) = kept₁ m c := by
  unfold kept₁
  exact Pipeline.unscopedRestP_eq_of_list cfg0.spec c Pipeline.Prefetch.none (fun b => m ((c : Thread nD τ).loc b)) [main_arg1] (by decide +kernel) (by decide)

theorem start_intro : iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ kept₁ m c) := by
  rw [rest_eq]
  iintro ⟨Hk, Hl, Hc, -, Hg⟩
  ihave Hc := (creds_intro (F := F) c) $$ Hc
  imodintro
  unfold start G'
  isplitr [Hk]
  · isplitl [Hg]; · iexact Hg
    isplitl [Hc]; · iexact Hc
    iexact Hl
  · iexact Hk

theorem phi0_intro : iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, H0, H1⟩
  isplitl [Hs]; · iexact Hs
  isplitl [H0] <;> iassumption

theorem phi1_exit : (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, scopedRest0_eq, own_dma, unscoped_bar]
  unfold Φ₁
  iintro ⟨H0, H1, Hb, Hd⟩
  isplitl [Hb]; · iexact Hb
  isplitl [Hd]; · iexact Hd
  isplitl [H0]; · iexists (wAll m); iexact H0
  iexists (cAll m); iexact H1

theorem stage_low : ∀ (w : Fin cfg0.W) (s : Fin (cfg0.win w).nbuf) (k : Fin 45), slv (SemLoc.dma ((cfg0.win w).sem s)) < plv k.val := by decide +kernel

theorem waits : (levAts L lv : sProp 𝕄) ⊢ Pipeline.cellsWaits cfgs (dats m ρ) () 0 c :=
  Pipeline.cellsWaits_intro cfgs (dats m ρ) () 0 c fun w s t => by
    rcases t with ⟨_ | n, ht⟩
    · exact mayWait c _ 0 fun k _ => stage_low w s k
    · rw [show (dats m ρ 0 c).owed ⟨n + 1, ht⟩ = 0 from rfl, ← owed_end c]
      exact mayWait c _ 45 fun k hk => absurd k.isLt (by omega)

def finalA (w : Fin cfg0.W) : Buf (Elt F) ((cfg0.win w).arr.view.loc (c : Thread nD τ)) := (dats m ρ 0 c).arrAt w cfg0.N

/-- What a run ends with: each window's array, and the array no window names. -/
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

theorem read_end (s' : Phys nD τ sig (Elt F)) : iprop(unscopedSems0 c ∗ kept₁ m c ∗ SI s')
    ⊢ (|={Set.univ}=> iprop(⌜(∀ sm : SemLoc sig, sm.isScoped .tc = false → s'.mem.sem ((c.tc : Thread nD τ), sm) = 0)
      ∧ s'.mem.mem ((c : Thread nD τ).loc main_arg1) = m ((c : Thread nD τ).loc main_arg1)⌝ ∗ SI s') : sProp 𝕄) := by
  unfold kept₁
  iintro ⟨Hu, Hk, HSI⟩
  ihave %h := (SI_pointsTo_agree (st := s')) $$ [HSI Hk]
  · isplitl [HSI] <;> iassumption
  ihave %h' := (tcUnscoped_read c s') $$ [Hu HSI]
  · isplitl [Hu] <;> iassumption
  imodintro
  isplitr
  · ipureintro; exact ⟨h', funext fun i => h i (Finset.mem_univ i)⟩
  iexact HSI

set_option maxRecDepth 8000 in
/-- From any memory with zero counters every run ends with the result array holding the folded rows, the arguments as
    they were, and every semaphore at zero. -/
theorem run_main : θ_run defs (onTc (τ := τ) (main (F := F))) ⟨m, fun _ => 0, ρ⟩ (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := kept₁ m)
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := read_end m)
    (hQ := fun _ h hs => ⟨fun c => ⟨(h c).1, (h c).2.2.2⟩, sem_eq_zero hs fun c => (h c).2.2.1⟩)

theorem finalA_x : finalA m ρ c (0 : Fin 4) = m ((c : Thread nD τ).loc main_arg0) := (dats (F := F) m ρ 0 c).arrAt_in (0 : Fin 4) rfl _
theorem finalA_r : finalA m ρ c (1 : Fin 4) = m ((c : Thread nD τ).loc main_arg2) := (dats (F := F) m ρ 0 c).arrAt_in (1 : Fin 4) rfl _
theorem finalA_w : finalA m ρ c (2 : Fin 4) = m ((c : Thread nD τ).loc main_arg3) := (dats (F := F) m ρ 0 c).arrAt_in (2 : Fin 4) rfl _

/-- What a run leaves of the arguments. -/
theorem QC_args {r : PUnit × MemSt nD τ sig (Elt F)} (h : QC m ρ r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  ⟨((h c).1 0).trans (finalA_x m ρ c), (h c).2, ((h c).1 1).trans (finalA_r m ρ c), ((h c).1 2).trans (finalA_w m ρ c)⟩

end Cert.Moe
-- ==== Proof.Frames.lean ====
module

public import proofs.«01_k».proof.Proof.Run
public import proofs.«01_k».proof.Proof.Gen.Kernel
public import proofs.«01_k».proof.Proof.Gen.ReferenceIdeal.Run
public import proofs.«01_k».proof.Defs

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! # The frames -/

/-- What a frame says of a run. -/
theorem kept_all (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => QC_args m ρ h.1 c, h.2⟩) (run_main m ρ)

/-- The idealized kernel's frame. -/
theorem frame_ideal : Cert.quiescent_KernelIdeal := fun m ρ _ => kept_all (F := Ideal) m ρ

/-! The two programs have one text: their labels' bodies agree. -/

theorem bodies_same : Cert.Kernel.defs₀ (F := Bits) = Cert.KernelIdeal.defs₀ (F := Bits) := by
  unfold Cert.Kernel.defs₀ Cert.KernelIdeal.defs₀
  refine congrArg _ (funext fun l => funext fun x => ?_)
  rcases l with ⟨_ | n, h⟩
  · rfl
  · exact absurd h (Nat.not_lt.2 (Nat.le_add_left _ _))
theorem defs_same : Cert.Kernel.defs (F := Bits) = Cert.KernelIdeal.defs (F := Bits) := by
  unfold Cert.Kernel.defs Cert.KernelIdeal.defs
  exact congrArg (Pipeline.defs _) bodies_same

/-- The kernel's frame. -/
theorem frame_bits : Cert.quiescent_Kernel := fun m ρ _ => by
  have h := kept_all (F := Bits) m ρ
  rw [← defs_same] at h
  exact h

/-- The reference's frame. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Moe
-- ==== Proof.Pay.lean ====
module

public import proofs.«01_k».proof.Proof.Duty
public import Idealize.ShloMosaic.Lib.Pointwise
public import Idealize.ShloMosaic.Lib.WordCmp

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open Idealize.ShloMosaic.Pointwise

section Pointwise

/-- A one-bit word widened and read as a number. -/
theorem bit_num (φ : FTy) (p : Prop) [Decidable p] :
    (FloatOps.sitofp φ ((BitVec.ofBool (decide p)).setWidth 32) : Ideal φ) = if p then (1 : EReal) else 0 := by
  by_cases h : p
  · rw [if_pos h, decide_eq_true h]
    show (((1 : ℤ) : ℝ) : EReal) = _
    simp
  · rw [if_neg h, decide_eq_false h]
    show (((0 : ℤ) : ℝ) : EReal) = _
    simp

theorem word_num (φ : FTy) (n : ℕ) (h : n < 2 ^ 31) : (FloatOps.sitofp φ (BitVec.ofNat 32 n) : Ideal φ) = ((n : ℕ) : EReal) := by
  show (((BitVec.ofNat 32 n).toInt : ℝ) : EReal) = _
  have e : (BitVec.ofNat 32 n).toInt = (n : ℤ) := by
    rw [BitVec.toInt_ofNat']
    have : n % 2 ^ 32 = n := Nat.mod_eq_of_lt (by omega)
    simp only [Int.bmod]
    omega
  rw [e]
  simp

theorem num_word (n : ℕ) (h : n < 2 ^ 31) : Ideal.fptosi 32 ((n : ℕ) : EReal) = BitVec.ofNat 32 n := by
  unfold Ideal.fptosi
  have e : ((n : ℕ) : EReal) = ((n : ℝ) : EReal) := by simp
  rw [e, Ideal.toIntClamped_coe, if_pos (Nat.cast_nonneg n), Int.floor_natCast]
  have : max (-(2 ^ (32 - 1) : ℕ) : ℤ) (min ((2 ^ (32 - 1) : ℕ) - 1 : ℤ) (n : ℤ)) = (n : ℤ) := by omega
  rw [this, BitVec.ofInt_natCast]

theorem tgt_at (v : Vec Ideal S1024x1 .i32) (r : Fin 1024) : k0_pay2 v (ix2 r 0) = v (ix2 r 0) := by
  pointwise [k0_pay2]

theorem onehot_at (v : Vec Ideal S1024x1 .i32) (r : Fin 1024) (l : Fin 128) :
    k0_pay3 v (ix2 r l) = if v (ix2 r 0) = BitVec.ofNat 32 l.val then (1 : EReal) else 0 := by
  pointwise [k0_pay3, k0_pay2]
  rw [WordCmp.cmpi_eq_eq, bit_num]

theorem hot_at (v : FVec Ideal S1024x128 .bf16) (r : Fin 1024) (e : Fin 64) :
    k0_pay4 v (ix2 r e) = v (ix2 r ⟨e.val, by omega⟩) := by
  pointwise [k0_pay4]

theorem rank_at (v : FVec Ideal S1024x64 .bf16) (r : Fin 1024) (e : Fin 64) :
    k0_pay7 v (ix2 r e) = ∑ k : Fin 1024, if k < r then v (ix2 k e) else (0 : EReal) := by
  pointwise [k0_pay7]
  refine Finset.sum_congr rfl fun k _ => ?_
  rw [WordCmp.cmpi_slt_ofNat (by omega) (by omega), bit_num]
  by_cases h : k < r
  · rw [if_pos h, if_pos (show k.val < r.val from h), one_mul]
  · rw [if_neg h, if_neg (show ¬ k.val < r.val from h), zero_mul]

theorem count_at (v : FVec Ideal S1024x128 .bf16) (l : Fin 128) :
    k0_pay6 v (ix3 0 0 l) = Ideal.fptosi 32 (∑ k : Fin 1024, v (ix2 k l)) := by
  pointwise [k0_pay6]
  rfl

/-- A word picked if the first of two small naturals is above the second. -/
theorem pick_word (a b : ℕ) (ha : a < 2 ^ 31) (hb : b < 2 ^ 31) (x : BitVec 32) :
    Scalar.select (Scalar.cmpi .sgt (BitVec.ofNat 32 a) (BitVec.ofNat 32 b)) x 0#32 = if b < a then x else 0#32 := by
  show Scalar.select (IntOp.cmpi .sgt (BitVec.ofNat 32 a) (BitVec.ofNat 32 b)) x 0#32 = _
  rw [WordCmp.cmpi_sgt_ofNat (by omega) (by omega)]
  by_cases h : b < a
  · rw [if_pos h, decide_eq_true h]; rfl
  · rw [if_neg h, decide_eq_false h]; rfl

/-- The sum of the first `n` words that stand at places below `c`. -/
def below (c : ℕ) (K : ℕ → BitVec 32) : ℕ → BitVec 32
  | 0 => 0#32
  | n + 1 => below c K n + if n < c then K n else 0#32

theorem pre8_at (c : ℕ) (hc : c < 16) (C : ℕ → IVec S1x8x128 32) (l : Fin 128) :
    k0_pay11 (F := Ideal) (BitVec.ofNat 32 c) (k0_pay10 (F := Ideal) (BitVec.ofNat 32 c) (k0_pay8 (F := Ideal) (BitVec.ofNat 32 c) (C 0) (C 1))
        (k0_pay9 (F := Ideal) (BitVec.ofNat 32 c) (C 2)) (C 3) (C 4) (C 5) (C 6) (C 7))
      (Scalar.cmpi .sgt (BitVec.ofNat 32 c) 8#32) (C 8) (C 9) (C 10) (C 11) (C 12) (ix2 0 l)
      = below c (fun s => C s (ix3 0 0 l)) 13 := by
  have hp (s : ℕ) (hs : s < 16) := pick_word c s (by omega) (by omega) (C s (ix3 0 0 l))
  pointwise [k0_pay11, k0_pay10, k0_pay9, k0_pay8]
  rw [hp 0 (by omega), hp 1 (by omega), hp 2 (by omega), hp 3 (by omega), hp 4 (by omega), hp 5 (by omega), hp 6 (by omega),
    hp 7 (by omega), hp 8 (by omega), hp 9 (by omega), hp 10 (by omega), hp 11 (by omega), hp 12 (by omega)]
  rfl

theorem limit_val : Ideal.ofBits .f32 0x434C0000#32 = ((204 : ℕ) : EReal) := by
  rw [show ((204 : ℕ) : EReal) = ((204 : ℝ) : EReal) by norm_cast]
  simp [Ideal.ofBits, Ideal.ieee, -EReal.coe_mul]; norm_num

theorem half_val : Ideal.ofBits .bf16 0x3F00#16 = (((1 : ℝ) / 2 : ℝ) : EReal) := by
  simp [Ideal.ofBits, Ideal.ieee, -EReal.coe_mul]; norm_num

/-- Whether a row is kept, from the ranks and the counts of the devices before. -/
theorem keep_at (c : ℕ) (hc : c < 16) (hot : FVec Ideal S1024x64 .bf16) (rk : FVec Ideal S1024x64 .f32) (p : IVec S8x128 32)
    (C : ℕ → IVec S1x8x128 32) (hpre : ∀ l : Fin 128, p (ix2 0 l) = below c (fun s => C s (ix3 0 0 l)) 13) (r : Fin 1024) :
    k0_pay14 (F := Ideal) (BitVec.ofNat 32 c) hot rk p (Scalar.cmpi .sgt (BitVec.ofNat 32 c) 13#32) (k0_pay12 (F := Ideal) (C 13)) k0_pay13 (C 14) (C 15) (ix2 r 0)
      = BitVec.ofBool (decide ((((1 : ℝ) / 2 : ℝ) : EReal) < ∑ e : Fin 64, hot (ix2 r e) *
          if rk (ix2 r e) + FloatOps.sitofp (F := Ideal) FTy.f32 (below c (fun s => C s (ix3 0 0 ⟨e.val, by omega⟩)) 16) < ((204 : ℕ) : EReal) then (1 : EReal) else 0)) := by
  pointwise [k0_pay14, k0_pay12, k0_pay13]
  rw [half_val, limit_val]
  refine congrArg (fun z : EReal => BitVec.ofBool (decide ((((1 : ℝ) / 2 : ℝ) : EReal) < z))) (Finset.sum_congr rfl fun e _ => ?_)
  have hp (s : ℕ) (hs : s < 16) := pick_word c s (by omega) (by omega) (C s (ix3 0 0 ⟨e.val, by omega⟩))
  rw [bit_num, hpre, hp 13 (by omega), hp 14 (by omega), hp 15 (by omega)]
  rfl

theorem step_at (v70 : IVec S1024x1 32) (keep : IVec S1024x1 1) (o : BitVec 32) (t : Fin k0_t2_loop.trips)
    (W : Vec Ideal S1x1x256x512 .bf16) (x : Vec Ideal S1024x256 .bf16) (g : Vec Ideal S1024x512 .f32) (r : Fin 1024) (h : Fin 512) :
    k0_pay17 v70 keep o t W x g (ix2 r h) = g (ix2 r h) + ∑ k : Fin 256,
      (if v70 (ix2 r 0) = o * 4#32 + BitVec.ofNat 32 t.val ∧ keep (ix2 r 0) = 1#1 then x (ix2 r k) else (0 : EReal)) * W (ix4 0 0 k h) := by
  pointwise [k0_pay17]
  refine congrArg (fun z : EReal => g (ix2 r h) + z) (Finset.sum_congr rfl fun k _ => ?_)
  refine congrArg (fun z : EReal => z * W (ix4 0 0 k h)) ?_
  have e : Scalar.addi (Scalar.muli o 4#32) (Scf.iv 0#32 1#32 t.val) = o * 4#32 + BitVec.ofNat 32 t.val := by
    show o * 4#32 + (0#32 + BitVec.ofNat 32 t.val * 1#32) = _
    rw [BitVec.zero_add, BitVec.mul_one]
  rw [e, WordCmp.cmpi_eq_eq]
  by_cases h1 : v70 (ix2 r 0) = o * 4#32 + BitVec.ofNat 32 t.val
  · rw [decide_eq_true h1]
    by_cases h2 : keep (ix2 r 0) = 1#1
    · rw [if_pos ⟨h1, h2⟩, h2]; rfl
    · rw [if_neg fun q => h2 q.2, (BitVec.eq_zero_or_eq_one _).resolve_right h2]
      show (((0 : ℤ) : ℝ) : EReal) = _
      simp
  · rw [if_neg fun q => h1 q.1, decide_eq_false h1]
    have h0 : IntOp.andi (BitVec.ofBool false) (keep (ix2 r 0)) = 0#1 := by
      show BitVec.ofBool false &&& keep (ix2 r 0) = 0#1
      rcases BitVec.eq_zero_or_eq_one (keep (ix2 r 0)) with q | q <;> rw [q] <;> rfl
    rw [h0]
    show (((0 : ℤ) : ℝ) : EReal) = _
    simp

theorem zero_at (r : Fin 1024) (h : Fin 512) : k0_pay15 (F := Ideal) (ix2 r h) = (0 : EReal) := by
  pointwise [k0_pay15]

end Pointwise
end Cert.Moe
-- ==== Proof.Blocks.lean ====
module

public import proofs.«01_k».proof.Proof.Pay
public import proofs.«01_k».proof.Proof.Run

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open Idealize.ShloMosaic.Pointwise
variable (m : (ℓ : Loc nD τ sig) → Buf (Elt F) ℓ)

/-! ## What the staged blocks and the tables hold -/

theorem xstg_at (c : Dev nD) (y : S1024x256.Idx) : xstg m c y = m ((c : Thread nD τ).loc main_arg0) y :=
  congrArg (m ((c : Thread nD τ).loc main_arg0)) (funext fun a => Fin.ext (Pipeline.Window.rect_emb_val_of_index_zero win0_0 (0 : Fin 1) a rfl y))
theorem rstg_at (c : Dev nD) (y : S1024x1.Idx) : rstg m c y = m ((c : Thread nD τ).loc main_arg2) y :=
  congrArg (m ((c : Thread nD τ).loc main_arg2)) (funext fun a => Fin.ext (Pipeline.Window.rect_emb_val_of_index_zero win0_1 (0 : Fin 1) a rfl y))
theorem estg_at (c : Dev nD) (y : S4x256x512.Idx) : estg m c y = m ((c : Thread nD τ).loc main_arg3) y :=
  congrArg (m ((c : Thread nD τ).loc main_arg3)) (funext fun a => Fin.ext (Pipeline.Window.rect_emb_val_of_index_zero win0_2 (0 : Fin 1) a rfl y))

theorem pay5_at (W : Vec F S4x256x512 .bf16) (e : Fin 4) (k : Fin 256) (h : Fin 512) : k0_pay5 W (ix4 0 e k h) = W (ix3 e k h) := by
  pointwise [k0_pay5]

theorem eRect_emb (s : Dev nD) (e : Fin 4) (k : Fin 256) (h : Fin 512) :
    (wM.access (eRect s e)).emb (ix4 0 0 k h) = (wM.access (wRect s)).emb (ix4 0 e k h) := by
  funext a
  apply Fin.ext
  show ((eRect s e).emb (ix4 0 0 k h) a).val = ((wRect s).emb (ix4 0 e k h) a).val
  rw [Rect.emb_apply, Rect.emb_apply]
  fin_cases a <;> simp [Rect.unit, ix4]

theorem eLd_at (s : Dev nD) (e : Fin 4) (k : Fin 256) (h : Fin 512) :
    eLd m s e (ix4 0 0 k h) = m ((s : Thread nD τ).loc main_arg3) (ix3 e k h) := by
  rw [← estg_at m s, ← pay5_at (estg m s), ← wLoad m s]
  unfold eLd
  rw [View.read_apply, View.read_apply, eRect_emb]

variable (ρ : Dev nD → PrngReg)

/-- The output array at the end: what the kernel leaves staged. -/
theorem finalA_o (c : Dev nD) : finalA m ρ c (3 : Fin 4) = outAt m c := by
  funext y
  have h := (dats m ρ 0 c).arrAt_emb_eq_flushed (3 : Fin 4) (fun t t' _ _ q => absurd (Subsingleton.elim (α := Fin 1) t t') q) (0 : Fin 1) rfl y
  have e : (win0_3.blk (0 : Fin 1)).view.emb y = y := funext fun a => Fin.ext (Pipeline.Window.rect_emb_val_of_index_zero win0_3 (0 : Fin 1) a rfl y)
  exact ((congrArg (finalA m ρ c (3 : Fin 4)) e).symm).trans h
end Cert.Moe
-- ==== Proof.Keep.lean ====
module

public import proofs.«01_k».proof.Proof.Blocks

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open Idealize.ShloMosaic.Pointwise

/-! ## Counting -/

/-- How many of a device's rows ask for expert `e`; how many of those before row `r`. -/
def ncount (R : Fin 1024 → BitVec 32) (e : ℕ) : ℕ := ∑ k : Fin 1024, if R k = BitVec.ofNat 32 e then 1 else 0
def nrank (R : Fin 1024 → BitVec 32) (r : Fin 1024) (e : ℕ) : ℕ := ∑ k : Fin 1024, if k < r then (if R k = BitVec.ofNat 32 e then 1 else 0) else 0

theorem ncount_le (R : Fin 1024 → BitVec 32) (e : ℕ) : ncount R e ≤ 1024 := by
  refine (Finset.sum_le_card_nsmul Finset.univ _ 1 fun k _ => ?_).trans (by simp)
  split <;> omega

theorem nrank_le (R : Fin 1024 → BitVec 32) (r : Fin 1024) (e : ℕ) : nrank R r e ≤ 1024 := by
  refine (Finset.sum_le_card_nsmul Finset.univ _ 1 fun k _ => ?_).trans (by simp)
  split
  · split <;> omega
  · omega

/-- How many rows of the devices before `c` ask for expert `e`. -/
def noff (R : Dev nD → Fin 1024 → BitVec 32) (c : ℕ) (e : ℕ) : ℕ := ∑ s : Dev nD, if s.val < c then ncount (R s) e else 0

theorem noff_le (R : Dev nD → Fin 1024 → BitVec 32) (c : ℕ) (e : ℕ) : noff R c e ≤ 16384 := by
  refine (Finset.sum_le_card_nsmul Finset.univ _ 1024 fun s _ => ?_).trans (by simp [nD])
  have := ncount_le (R s) e
  split <;> omega

theorem below_num (c : ℕ) (K : ℕ → BitVec 32) (n : ℕ → ℕ) (hK : ∀ s, K s = BitVec.ofNat 32 (n s)) (t : ℕ) :
    below c K t = BitVec.ofNat 32 (∑ s ∈ Finset.range t, if s < c then n s else 0) := by
  induction t with
  | zero => rfl
  | succ t ih =>
    rw [Finset.sum_range_succ, BitVec.ofNat_add, ← ih]
    show below c K t + (if t < c then K t else 0#32) = _
    refine congrArg (below c K t + ·) ?_
    split
    · exact hK t
    · rfl

/-- The one place of a 0/1 row that is 1 picks that place's value. -/
theorem pick_sum (w : BitVec 32) (P : Fin 64 → Prop) [∀ e, Decidable (P e)] (E : Fin 64) (hE : w = BitVec.ofNat 32 E.val) :
    (∑ e : Fin 64, (if w = BitVec.ofNat 32 e.val then (1 : EReal) else 0) * if P e then (1 : EReal) else 0) = if P E then (1 : EReal) else 0 := by
  rw [Finset.sum_eq_single E]
  · rw [if_pos hE, one_mul]
  · intro e _ he
    rw [if_neg, zero_mul]
    intro q
    refine he (Fin.ext ?_)
    have := congrArg BitVec.toNat (q.symm.trans hE)
    simp only [BitVec.toNat_ofNat] at this
    omega
  · intro q; exact absurd (Finset.mem_univ _) q

section Keep
variable (m : (ℓ : Loc nD τ sig) → Buf (Elt Ideal) ℓ)

/-- The route words of a device. -/
def rt (c : Dev nD) (r : Fin 1024) : BitVec 32 := m ((c : Thread nD τ).loc main_arg2) (ix2 r 0)

theorem cnt_at (s : Dev nD) (l : Fin 128) : cnt m s (ix3 0 0 l) = BitVec.ofNat 32 (ncount (rt m s) l.val) := by
  unfold cnt
  rw [count_at, ← num_word _ (by have := ncount_le (rt m s) l.val; omega)]
  unfold ncount
  rw [Nat.cast_sum]
  refine congrArg (Ideal.fptosi 32) (Finset.sum_congr rfl fun k _ => ?_)
  rw [onehot_at, rstg_at]
  show (if rt m s k = _ then (1 : EReal) else 0) = _
  split <;> simp

theorem hotv_at (c : Dev nD) (r : Fin 1024) (e : Fin 64) : hot m c (ix2 r e) = if rt m c r = BitVec.ofNat 32 e.val then (1 : EReal) else 0 := by
  unfold hot
  rw [hot_at, onehot_at, rstg_at]; rfl

theorem rankv_at (c : Dev nD) (r : Fin 1024) (e : Fin 64) : k0_pay7 (hot m c) (ix2 r e) = ((nrank (rt m c) r e.val : ℕ) : EReal) := by
  rw [rank_at]
  unfold nrank
  rw [Nat.cast_sum]
  refine Finset.sum_congr rfl fun k _ => ?_
  rw [hotv_at]
  split
  · split <;> simp
  · simp

theorem lt_half (p : Prop) [Decidable p] : ((((1 : ℝ) / 2 : ℝ) : EReal) < if p then (1 : EReal) else 0) ↔ p := by
  by_cases h : p
  · rw [if_pos h]
    refine ⟨fun _ => h, fun _ => ?_⟩
    rw [show (1 : EReal) = ((1 : ℝ) : EReal) by norm_cast, EReal.coe_lt_coe_iff]
    norm_num
  · rw [if_neg h]
    refine ⟨fun q => absurd q ?_, fun q => absurd q h⟩
    rw [show (0 : EReal) = ((0 : ℝ) : EReal) by norm_cast, EReal.coe_lt_coe_iff]
    norm_num

/-- The counts as the kernel loads them, and their sum over the devices before. -/
def cN (s : ℕ) : IVec S1x8x128 32 := cnt m ⟨s % 16, Nat.mod_lt _ (by decide)⟩
def offw (c : ℕ) (e : Fin 64) : BitVec 32 := below c (fun s => cN m s (ix3 0 0 ⟨e.val, by omega⟩)) 16

theorem cN_at (e : Fin 64) (s : ℕ) : cN m s (ix3 0 0 ⟨e.val, by omega⟩) = BitVec.ofNat 32 (ncount (rt m ⟨s % 16, Nat.mod_lt _ (by decide)⟩) e.val) :=
  cnt_at m ⟨s % 16, Nat.mod_lt _ (by decide)⟩ ⟨e.val, by omega⟩

theorem offw_num (c : ℕ) (e : Fin 64) : offw m c e = BitVec.ofNat 32 (noff (rt m) c e.val) := by
  unfold offw
  rw [below_num c _ (fun s => ncount (rt m ⟨s % 16, Nat.mod_lt _ (by decide)⟩) e.val) (cN_at m e)]
  refine congrArg (BitVec.ofNat 32) ?_
  rw [Finset.sum_range]
  unfold noff
  refine Finset.sum_congr rfl fun s _ => ?_
  have hs : (⟨s.val % 16, Nat.mod_lt _ (by decide)⟩ : Dev nD) = s := Fin.ext (Nat.mod_eq_of_lt s.isLt)
  rw [hs]

theorem keepv_raw (c : Dev nD) (r : Fin 1024) : keepv m c (ix2 r 0)
    = BitVec.ofBool (decide ((((1 : ℝ) / 2 : ℝ) : EReal) < ∑ e : Fin 64, hot m c (ix2 r e) *
          if k0_pay7 (hot m c) (ix2 r e) + FloatOps.sitofp (F := Ideal) FTy.f32 (offw m c.val e) < ((204 : ℕ) : EReal) then (1 : EReal) else 0)) :=
  keep_at c.val c.isLt (hot m c) (k0_pay7 (hot m c)) (pre8 m c) (cN m) (pre8_at c.val c.isLt (cN m)) r

theorem keep_sum (c : Dev nD) (r : Fin 1024) (E : Fin 64) (hE : rt m c r = BitVec.ofNat 32 E.val) :
    (∑ e : Fin 64, hot m c (ix2 r e) *
        if k0_pay7 (hot m c) (ix2 r e) + FloatOps.sitofp (F := Ideal) FTy.f32 (offw m c.val e) < ((204 : ℕ) : EReal) then (1 : EReal) else 0)
      = if nrank (rt m c) r E.val + noff (rt m) c.val E.val < 204 then (1 : EReal) else 0 := by
  rw [← pick_sum (rt m c r) (fun e => nrank (rt m c) r e.val + noff (rt m) c.val e.val < 204) E hE]
  refine Finset.sum_congr rfl fun e _ => ?_
  rw [hotv_at, rankv_at, offw_num, word_num _ _ (by have := noff_le (rt m) c.val e.val; omega)]
  refine congrArg (fun z : EReal => (if rt m c r = BitVec.ofNat 32 e.val then (1 : EReal) else 0) * z) ?_
  refine if_congr ?_ rfl rfl
  rw [← Nat.cast_add, Nat.cast_lt]

theorem ofBool_one (p : Prop) [Decidable p] : BitVec.ofBool (decide p) = 1#1 ↔ p := by
  by_cases h : p
  · rw [decide_eq_true h]; exact ⟨fun _ => h, fun _ => rfl⟩
  · rw [decide_eq_false h]; exact ⟨fun q => absurd q (by decide), fun q => absurd q h⟩

/-- A row that asks for expert `E` is kept just if fewer than 204 rows before it, on all devices, ask for it too. -/
theorem keepv_at (c : Dev nD) (r : Fin 1024) (E : Fin 64) (hE : rt m c r = BitVec.ofNat 32 E.val) :
    keepv m c (ix2 r 0) = 1#1 ↔ nrank (rt m c) r E.val + noff (rt m) c.val E.val < 204 := by
  rw [keepv_raw, ofBool_one, keep_sum m c r E hE, lt_half]

/-! ## The output -/

/-- The entries of the tokens and of the experts. -/
def xv (c : Dev nD) (r : Fin 1024) (k : Fin 256) : EReal := m ((c : Thread nD τ).loc main_arg0) (ix2 r k)
def wv (s : Dev nD) (e : Fin 4) (k : Fin 256) (h : Fin 512) : EReal := m ((s : Thread nD τ).loc main_arg3) (ix3 e k h)

/-- What the experts of device `s` add to one entry of device `c`'s output. -/
def part (c : Dev nD) (r : Fin 1024) (h : Fin 512) (s : Dev nD) : EReal := ∑ e : Fin 4, ∑ k : Fin 256,
  (if rt m c r = BitVec.ofNat 32 s.val * 4#32 + BitVec.ofNat 32 e.val ∧ keepv m c (ix2 r 0) = 1#1
    then xv m c r k else (0 : EReal)) * wv m s e k h

theorem accN_at (c s : Dev nD) (g : Vec Ideal S1024x512 .f32) (r : Fin 1024) (h : Fin 512) :
    (accN m (tgt m c) (keepv m c) (wd s) s (xstg m c) g 4 (ix2 r h) : EReal) = (g (ix2 r h) : EReal) + part m c r h s := by
  have ht : tgt m c (ix2 r 0) = rt m c r := by unfold tgt; rw [tgt_at, rstg_at]; rfl
  unfold part
  rw [Fin.sum_univ_four, ← add_assoc, ← add_assoc, ← add_assoc]
  simp only [accN, dif_pos (show 0 < 4 by omega), dif_pos (show 1 < 4 by omega), dif_pos (show 2 < 4 by omega), dif_pos (show 3 < 4 by omega),
    step_at, ht, eLd_at, xstg_at]
  rfl

theorem gN_at (c : Dev nD) (r : Fin 1024) (h : Fin 512) (n : ℕ) :
    (gN m c (tgt m c) (keepv m c) n (ix2 r h) : EReal) = part m c r h c + ∑ i ∈ Finset.range n, part m c r h (wrow c (pslot i)) := by
  induction n with
  | zero =>
    rw [Finset.sum_range_zero, add_zero]
    exact (accN_at m c c _ r h).trans (by rw [zero_at, zero_add])
  | succ n ih =>
    rw [Finset.sum_range_succ, ← add_assoc]
    exact (accN_at m c _ _ r h).trans (congrArg (fun z : EReal => z + part m c r h (wrow c (pslot n))) ih)

theorem rows_cover : ∀ c : Dev nD, (Finset.univ.image fun i : Fin 15 => wrow c (pslot i.val)) = Finset.univ.erase c := by decide +kernel
theorem rows_inj : ∀ c : Dev nD, Function.Injective fun i : Fin 15 => wrow c (pslot i.val) := by decide +kernel

theorem outAt_at (c : Dev nD) (r : Fin 1024) (h : Fin 512) : (outAt m c (ix2 r h) : EReal) = ∑ s : Dev nD, part m c r h s := by
  unfold outAt
  rw [gN_at, Finset.sum_range, ← Finset.add_sum_erase Finset.univ _ (Finset.mem_univ c), ← rows_cover c, Finset.sum_image fun i _ j _ q => rows_inj c q]

end Keep
end Cert.Moe
-- ==== Proof.RefVal.lean ====
module

public import proofs.«01_k».proof.Proof.Gen.ReferenceIdeal.Run
public import Idealize.ShloMosaic.Lib.Pointwise
public import Idealize.ShloMosaic.Lib.WordCmp
public import Idealize.ShloMosaic.Lib.Routing.OpsOne

@[expose] public section

set_option maxRecDepth 16384

noncomputable section

namespace Cert.Moe

open Cert.ReferenceIdeal Cert.ReferenceIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.Pointwise

/-! ## The reference, in steps -/

section Steps

/-- Which expert a token asks for, as 0/1 rows. -/
def rChosen (v : IVec S16384x1 32) : IVec S16384x64 1 :=
  cmpi .eq (broadcastInDim S16384x64 ![0, 1] bcast_S16384x1_S16384x64_0_1 v)
    (broadcastInDim S16384x64 ![0, 1] bcast_S1x64_S16384x64_0_1 (broadcastInDim S1x64 ![1] bcast_S64_S1x64_1 (iotaInDim S64 32 0)))
/-- How many tokens so far, this one counted, ask for each expert. -/
def rCount (v : IVec S16384x1 32) : IVec S16384x64 32 :=
  Host.reduceWindow IntOp.addi ![16384, 1] ![1, 1] ![16383, 0] ![0, 0] (extui 32 (rChosen v) natLt_1_32)
    (broadcastInDim S_ ![] bcast_S_S_ (constantI S_ 32 0#32)) reduceWindows_S16384x64_S16384x64_w16384s1p16383_0_w1s1p0_0 h_S_
/-- The tokens each expert keeps. -/
def rKept (v : IVec S16384x1 32) : IVec S16384x64 1 :=
  andi (rChosen v) (cmpi .sle (rCount v) (broadcastInDim S16384x64 ![] bcast_S_S16384x64 (constantI S_ 32 204#32)))
/-- Every expert's product with every token. -/
def rDense (x : FVec Ideal S16384x256 .bf16) (W : FVec Ideal S64x256x512 .bf16) : FVec Ideal S16384x64x512 .f32 :=
  Host.dotGeneral dot_S16384x256_S64x256x512_S16384x64x512_1_1_0_02_n_n none (extf .f32 x bitsLt_bf16_f32) (extf .f32 W bitsLt_bf16_f32)
/-- The sum of the kept products. -/
def rOut (x : FVec Ideal S16384x256 .bf16) (v : IVec S16384x1 32) (W : FVec Ideal S64x256x512 .bf16) : FVec Ideal S16384x512 .f32 :=
  Host.reduceAdd (select (broadcastInDim S16384x64x512 ![0, 1, 2] bcast_S16384x64x1_S16384x64x512_0_1_2
      (broadcastInDim S16384x64x1 ![0, 1] bcast_S16384x64_S16384x64x1_0_1 (rKept v)))
    (rDense x W) (broadcastInDim S16384x64x512 ![] bcast_S_S16384x64x512 (id (constant S_ .f32 0x00000000#32))))
    (constant S_ .f32 0x00000000#32) reducesTo_S16384x64x512_S16384x512_d1 h_S_

/-- How many of the tokens up to `t` ask for expert `e`. -/
def ncum (R : Fin 16384 → BitVec 32) (t : Fin 16384) (e : ℕ) : ℕ := ∑ k : Fin 16384, if k ≤ t then (if R k = BitVec.ofNat 32 e then 1 else 0) else 0

theorem rChosen_at (v : IVec S16384x1 32) (t : Fin 16384) (e : Fin 64) :
    rChosen v (ix2 t e) = BitVec.ofBool (decide (v (ix2 t 0) = BitVec.ofNat 32 e.val)) := by
  pointwise [rChosen]
  rw [WordCmp.cmpi_eq_eq]

theorem rDense_at (x : FVec Ideal S16384x256 .bf16) (W : FVec Ideal S64x256x512 .bf16) (t : Fin 16384) (e : Fin 64) (h : Fin 512) :
    rDense x W (ix3 t e h) = ∑ k : Fin 256, (x (ix2 t k) : EReal) * W (ix3 e k h) := by
  pointwise [rDense]

theorem rCount_at (v : IVec S16384x1 32) (t : Fin 16384) (e : Fin 64) :
    rCount v (ix2 t e) = BitVec.ofNat 32 (ncum (fun k => v (ix2 k 0)) t e.val) := by
  have h := Routing.cumsum_rows_sum (A := 16384) (Am1 := 16383) (N := 64) rfl (extui 32 (rChosen v) natLt_1_32)
    (broadcastInDim S_ ![] bcast_S_S_ (constantI S_ 32 0#32)) rfl reduceWindows_S16384x64_S16384x64_w16384s1p16383_0_w1s1p0_0 h_S_ t e
  have h' : rCount v (ix2 t e) = ∑ w' : Fin 16384, if w' ≤ t then extui 32 (rChosen v) natLt_1_32 (ix2 w' e) else 0 := h
  rw [h']
  unfold ncum
  show _ = ((∑ k : Fin 16384, _ : ℕ) : BitVec 32)
  rw [Nat.cast_sum]
  refine Finset.sum_congr rfl fun k _ => ?_
  split
  · show (rChosen v (ix2 k e)).setWidth 32 = _
    rw [rChosen_at]
    split
    · next q => rw [decide_eq_true q]; rfl
    · next q => rw [decide_eq_false q]; rfl
  · rfl

theorem ncum_le (R : Fin 16384 → BitVec 32) (t : Fin 16384) (e : ℕ) : ncum R t e ≤ 16384 := by
  refine (Finset.sum_le_card_nsmul Finset.univ _ 1 fun k _ => ?_).trans (by simp)
  split
  · split <;> omega
  · omega

theorem bits_and (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem rKept_at (v : IVec S16384x1 32) (t : Fin 16384) (e : Fin 64) :
    rKept v (ix2 t e) = BitVec.ofBool (decide (v (ix2 t 0) = BitVec.ofNat 32 e.val ∧ ncum (fun k => v (ix2 k 0)) t e.val ≤ 204)) := by
  pointwise [rKept]
  rw [rChosen_at, rCount_at, WordCmp.cmpi_sle_ofNat (by have := ncum_le (fun k => v (ix2 k 0)) t e.val; omega) (by omega), bits_and]

/-- The reference at an entry. -/
theorem rOut_at (x : FVec Ideal S16384x256 .bf16) (v : IVec S16384x1 32) (W : FVec Ideal S64x256x512 .bf16) (t : Fin 16384) (h : Fin 512) :
    rOut x v W (ix2 t h) = ∑ e : Fin 64, if v (ix2 t 0) = BitVec.ofNat 32 e.val ∧ ncum (fun k => v (ix2 k 0)) t e.val ≤ 204
      then ∑ k : Fin 256, (x (ix2 t k) : EReal) * W (ix3 e k h) else (0 : EReal) := by
  pointwise [rOut]
  refine Finset.sum_congr rfl fun e _ => ?_
  rw [rKept_at, rDense_at]
  by_cases q : v (ix2 t 0) = BitVec.ofNat 32 e.val ∧ ncum (fun k => v (ix2 k 0)) t e.val ≤ 204
  · rw [if_pos q, decide_eq_true q]; rfl
  · rw [if_neg q, decide_eq_false q]; exact Ideal.ofBits_zero_f32

end Steps

/-- The reference's run, its result in steps. -/
theorem run_ref (m : (ℓ : Loc nD τ sig) → Buf (Elt Ideal) ℓ) (ρ : Dev nD → PrngReg) :
    θ_run defs (onTc (τ := τ) (main (F := Ideal))) ⟨m, fun _ => 0, ρ⟩ fun r =>
      r.2.mem (((0 : Dev nD) : Thread nD τ).loc main_v15)
        = rOut (m (((0 : Dev nD) : Thread nD τ).loc main_arg0)) (m (((0 : Dev nD) : Thread nD τ).loc main_arg2)) (m (((0 : Dev nD) : Thread nD τ).loc main_arg3))
      ∧ r.2.mem (((0 : Dev nD) : Thread nD τ).loc main_arg0) = m (((0 : Dev nD) : Thread nD τ).loc main_arg0)
      ∧ r.2.mem (((0 : Dev nD) : Thread nD τ).loc main_arg1) = m (((0 : Dev nD) : Thread nD τ).loc main_arg1)
      ∧ r.2.mem (((0 : Dev nD) : Thread nD τ).loc main_arg2) = m (((0 : Dev nD) : Thread nD τ).loc main_arg2)
      ∧ r.2.mem (((0 : Dev nD) : Thread nD τ).loc main_arg3) = m (((0 : Dev nD) : Thread nD τ).loc main_arg3) :=
  (θ_run defs _ _).mono (fun r h => h 0) (Cert.ReferenceIdeal.Value.run (F := Ideal) m ρ)

end Cert.Moe
-- ==== Proof.Value.lean ====
module

public import proofs.«01_k».proof.Proof.Keep
public import proofs.«01_k».proof.Proof.RefVal
public import proofs.«01_k».proof.Proof.Frames

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

open Idealize.ShloMosaic.Pointwise

/-! ## Whole arrays and their blocks -/

/-- Row `r` of device `c` among all tokens; expert `e` of device `s` among all experts. -/
def tk (c : Dev nD) (r : Fin 1024) : Fin 16384 := ⟨c.val * 1024 + r.val, by have := c.isLt; simp only [nD] at this; omega⟩
def ex (s : Dev nD) (e : Fin 4) : Fin 64 := ⟨s.val * 4 + e.val, by have := s.isLt; simp only [nD] at this; omega⟩

theorem sum_tk {M : Type} [AddCommMonoid M] (f : Fin 16384 → M) : ∑ t : Fin 16384, f t = ∑ s : Dev nD, ∑ k : Fin 1024, f (tk s k) := by
  rw [← Fintype.sum_prod_type']
  refine (Fintype.sum_equiv (finProdFinEquiv (m := 16) (n := 1024)) _ _ fun p => congrArg f (Fin.ext ?_)).symm
  simp only [tk, finProdFinEquiv_apply_val]
  omega

theorem sum_ex {M : Type} [AddCommMonoid M] (f : Fin 64 → M) : ∑ t : Fin 64, f t = ∑ s : Dev nD, ∑ k : Fin 4, f (ex s k) := by
  rw [← Fintype.sum_prod_type']
  refine (Fintype.sum_equiv (finProdFinEquiv (m := 16) (n := 4)) _ _ fun p => congrArg f (Fin.ext ?_)).symm
  simp only [ex, finProdFinEquiv_apply_val]
  omega

/-- The tokens up to row `r` of device `c` are those of the devices before, the rows before and the row itself. -/
theorem ncum_split (R : Fin 16384 → BitVec 32) (c : Dev nD) (r : Fin 1024) (e : ℕ) :
    ncum R (tk c r) e = noff (fun s k => R (tk s k)) c.val e + nrank (fun k => R (tk c k)) r e + if R (tk c r) = BitVec.ofNat 32 e then 1 else 0 := by
  unfold ncum noff
  rw [sum_tk]
  have hs (s : Dev nD) : (∑ k : Fin 1024, if tk s k ≤ tk c r then (if R (tk s k) = BitVec.ofNat 32 e then 1 else 0) else 0)
      = (if s.val < c.val then ncount (fun k => R (tk s k)) e else 0)
        + if s = c then nrank (fun k => R (tk c k)) r e + (if R (tk c r) = BitVec.ofNat 32 e then 1 else 0) else 0 := by
    rcases lt_trichotomy s c with h | h | h
    · have h' : s.val < c.val := h
      rw [if_pos h', if_neg (ne_of_lt h), add_zero]
      unfold ncount
      refine Finset.sum_congr rfl fun k _ => if_pos ?_
      show s.val * 1024 + k.val ≤ c.val * 1024 + r.val
      omega
    · subst h
      rw [if_neg (lt_irrefl _), if_pos rfl, zero_add]
      unfold nrank
      have : (if R (tk s r) = BitVec.ofNat 32 e then 1 else 0) = ∑ k : Fin 1024, if k = r then (if R (tk s k) = BitVec.ofNat 32 e then 1 else 0) else 0 := by
        rw [Finset.sum_ite_eq' Finset.univ r, if_pos (Finset.mem_univ r)]
      rw [this, ← Finset.sum_add_distrib]
      refine Finset.sum_congr rfl fun k _ => ?_
      have hk : tk s k ≤ tk s r ↔ k.val ≤ r.val := by
        show s.val * 1024 + k.val ≤ s.val * 1024 + r.val ↔ _
        omega
      rcases lt_trichotomy k r with q | q | q
      · rw [if_pos (hk.2 (le_of_lt q)), if_pos q, if_neg (ne_of_lt q), add_zero]
      · subst q
        rw [if_pos (hk.2 le_rfl), if_neg (lt_irrefl _), if_pos rfl, zero_add]
      · rw [if_neg (fun z => absurd (hk.1 z) (not_le_of_gt q)), if_neg (not_lt_of_gt q), if_neg (ne_of_gt q)]
    · have h' : c.val < s.val := h
      rw [if_neg (not_lt_of_gt h'), if_neg (ne_of_gt h), add_zero]
      refine Finset.sum_eq_zero fun k _ => if_neg ?_
      show ¬ s.val * 1024 + k.val ≤ c.val * 1024 + r.val
      omega
  rw [Finset.sum_congr rfl fun s _ => hs s, Finset.sum_add_distrib, Finset.sum_ite_eq' Finset.univ c, if_pos (Finset.mem_univ c), add_assoc]

theorem ex_word (s : Dev nD) (e : Fin 4) : BitVec.ofNat 32 s.val * 4#32 + BitVec.ofNat 32 e.val = BitVec.ofNat 32 (ex s e).val := by
  unfold ex
  rw [BitVec.ofNat_add, BitVec.ofNat_mul]

section Equal
variable (m : (ℓ : Loc nD τ sig) → Buf (Elt Ideal) ℓ)
variable (X : FVec Ideal ⟨2, ![16384, 256]⟩ .bf16) (V : IVec ⟨2, ![16384, 1]⟩ 32) (W : FVec Ideal ⟨3, ![64, 256, 512]⟩ .bf16)
variable (hX : ∀ c r k, xv m c r k = X (ix2 (tk c r) k)) (hV : ∀ c r, rt m c r = V (ix2 (tk c r) 0)) (hW : ∀ s e k h, wv m s e k h = W (ix3 (ex s e) k h))

include hX hV hW in
/-- What the kernel leaves is the reference's entry. -/
theorem out_entry (c : Dev nD) (r : Fin 1024) (h : Fin 512) : (outAt m c (ix2 r h) : EReal) = rOut X V W (ix2 (tk c r) h) := by
  suffices key : (∑ s : Dev nD, part m c r h s) = ∑ e : Fin 64, if V (ix2 (tk c r) 0) = BitVec.ofNat 32 e.val ∧ ncum (fun k => V (ix2 k 0)) (tk c r) e.val ≤ 204
      then ∑ k : Fin 256, (X (ix2 (tk c r) k) : EReal) * W (ix3 e k h) else (0 : EReal) from
    (outAt_at m c r h).trans (key.trans (rOut_at X V W (tk c r) h).symm)
  rw [sum_ex]
  refine Finset.sum_congr rfl fun s _ => Finset.sum_congr rfl fun e _ => ?_
  have hR : rt m = fun s k => V (ix2 (tk s k) 0) := funext fun s => funext fun k => hV s k
  rw [ex_word]
  by_cases q : V (ix2 (tk c r) 0) = BitVec.ofNat 32 (ex s e).val
  · have q' : rt m c r = BitVec.ofNat 32 (ex s e).val := (hV c r).trans q
    have hk := keepv_at m c r (ex s e) q'
    have hc := ncum_split (fun k => V (ix2 k 0)) c r (ex s e).val
    rw [if_pos q] at hc
    rw [hR] at hk
    beta_reduce at hk
    by_cases z : ncum (fun k => V (ix2 k 0)) (tk c r) (ex s e).val ≤ 204
    · rw [if_pos ⟨q, z⟩]
      refine Finset.sum_congr rfl fun k _ => ?_
      rw [if_pos ⟨q', hk.2 (by omega)⟩, hX, hW]
    · rw [if_neg fun y => z y.2]
      refine Finset.sum_eq_zero fun k _ => ?_
      rw [if_neg fun y => z (by have := hk.1 y.2; omega), zero_mul]
  · rw [if_neg fun y => q y.1]
    refine Finset.sum_eq_zero fun k _ => ?_
    rw [if_neg fun y => q ((hV c r).symm.trans y.1), zero_mul]

end Equal

/-! ## The claim -/

theorem blk_rows {α : Type} {n : ℕ} (c : Dev nD) (v : (⟨2, ![16384, n]⟩ : Shape).Idx → α) (hT : Layout.Tiles ⟨2, ![1024, n]⟩ ⟨2, ![16384, n]⟩ 0 16)
    (r : Fin 1024) (l : Fin n) : Layout.block ⟨2, ![1024, n]⟩ ⟨2, ![16384, n]⟩ 0 16 c v hT (ix2 r l) = v (ix2 (tk c r) l) := by
  rw [Layout.block_apply]
  refine congrArg v (funext fun a => Fin.ext ?_)
  rw [Layout.Tiles.idx_val]
  fin_cases a
  · simp [tk, ix2]; try omega
  · simp [ix2]

theorem blk_experts {α : Type} (c : Dev nD) (v : (⟨3, ![64, 256, 512]⟩ : Shape).Idx → α) (hT : Layout.Tiles ⟨3, ![4, 256, 512]⟩ ⟨3, ![64, 256, 512]⟩ 0 16)
    (e : Fin 4) (k : Fin 256) (h : Fin 512) : Layout.block ⟨3, ![4, 256, 512]⟩ ⟨3, ![64, 256, 512]⟩ 0 16 c v hT (ix3 e k h) = v (ix3 (ex c e) k h) := by
  rw [Layout.block_apply]
  refine congrArg v (funext fun a => Fin.ext ?_)
  rw [Layout.Tiles.idx_val]
  fin_cases a
  · simp [ex, ix3]; try omega
  · simp [ix3]
  · simp [ix3]

/-- The idealized kernel computes the reference. -/
theorem algebraic : Cert.algebraic_KernelIdeal_ReferenceIdeal := by
  intro m g m' g' _ hin
  refine ⟨rOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)), ?_, run_ref m' g'⟩
  refine (θ_run defs _ _).mono (fun r h c => ⟨?_, QC_args m g h.1 c⟩) (run_main m g)
  refine ((h.1 c).1 3).trans ((finalA_o m g c).trans (funext fun y => ?_))
  obtain ⟨a, b, rfl⟩ : ∃ (a : Fin 1024) (b : Fin 512), y = ix2 a b := ⟨y 0, y 1, eq_ix2 y⟩
  rw [blk_rows]
  exact out_entry m _ _ _ (fun c r k => (congrFun (hin c).1 (ix2 r k)).trans (blk_rows c _ _ r k))
    (fun c r => (congrFun (hin c).2.2.1 (ix2 r 0)).trans (blk_rows c _ _ r 0))
    (fun s e k h => (congrFun (hin s).2.2.2 (ix3 e k h)).trans (blk_experts s _ _ e k h)) c a b

end Cert.Moe
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Moe.frame_bits, Cert.Moe.frame_ideal, Cert.Moe.frame_ref, trivial, Cert.Moe.algebraic⟩

end Cert.Proof

end
